-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S4096x512 : Shape := ⟨2, ![4096, 512]⟩
abbrev S128x512 : Shape := ⟨2, ![128, 512]⟩
abbrev S5 : Shape := ⟨1, ![5]⟩
abbrev S3 : Shape := ⟨1, ![3]⟩
abbrev S12 : Shape := ⟨1, ![12]⟩
abbrev S_ : Shape := ⟨0, ![]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S4096x512, .f32⟩
  | .local _ .vmem, ⟨0, _⟩ => ⟨S1024x512, .f32⟩
  | .local _ .vmem, ⟨1, _⟩ => ⟨S4096x512, .f32⟩
  | .local _ .vmem, ⟨2, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => true
  | ⟨1, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 2 40 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_55 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_54 : BitVec 32 := 16#32
  let v80 : BitVec 32 := Scalar.muli v24 c16_i32_54
  let v81 : BitVec 32 := Scalar.addi c0_i32_55 v80
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_56 : BitVec 32 := 4#32
  let v82 : BitVec 32 := Scalar.muli v27 c4_i32_56
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v84 : BitVec 32 := Scalar.muli v8 c1_i32_57
  let v85 : BitVec 32 := Scalar.addi v83 v84
  v85.toNat
def k0_dev2 (d0 : Dev nD) : Nat :=
  let c0_i32_60 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_59 : BitVec 32 := 16#32
  let v86 : BitVec 32 := Scalar.muli v40 c16_i32_59
  let v87 : BitVec 32 := Scalar.addi c0_i32_60 v86
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_61 : BitVec 32 := 4#32
  let v88 : BitVec 32 := Scalar.muli v43 c4_i32_61
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v90 : BitVec 32 := Scalar.muli v8 c1_i32_62
  let v91 : BitVec 32 := Scalar.addi v89 v90
  v91.toNat
def k0_dev3 (d0 : Dev nD) : Nat :=
  let c0_i32_65 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_64 : BitVec 32 := 16#32
  let v92 : BitVec 32 := Scalar.muli v2 c16_i32_64
  let v93 : BitVec 32 := Scalar.addi c0_i32_65 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_66 : BitVec 32 := 4#32
  let v94 : BitVec 32 := Scalar.muli v5 c4_i32_66
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v57 : BitVec 32 := Scalar.addi v8 c1_i32_39
  let c4_i32_40 : BitVec 32 := 4#32
  let c0_i32_41 : BitVec 32 := 0#32
  let v58 : BitVec 1 := Scalar.cmpi .eq c4_i32_40 c0_i32_41
  let c1_i32_42 : BitVec 32 := 1#32
  let v59 : BitVec 32 := Scalar.select v58 c1_i32_42 c4_i32_40
  let v60 : BitVec 32 := Scalar.remsi v57 v59
  let c0_i32_44 : BitVec 32 := 0#32
  let v62 : BitVec 1 := Scalar.cmpi .slt v60 c0_i32_44
  let c0_i32_45 : BitVec 32 := 0#32
  let v63 : BitVec 1 := Scalar.cmpi .slt v59 c0_i32_45
  let v64 : BitVec 1 := Scalar.xori v62 v63
  let c0_i32_43 : BitVec 32 := 0#32
  let v61 : BitVec 1 := Scalar.cmpi .ne v60 c0_i32_43
  let v65 : BitVec 1 := Scalar.andi v64 v61
  let v66 : BitVec 32 := Scalar.addi v60 v59
  let v67 : BitVec 32 := Scalar.select v65 v66 v60
  let c1_i32_67 : BitVec 32 := 1#32
  let v96 : BitVec 32 := Scalar.muli v67 c1_i32_67
  let v97 : BitVec 32 := Scalar.addi v95 v96
  v97.toNat
def k0_dev4 (d0 : Dev nD) : Nat :=
  let c0_i32_70 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_69 : BitVec 32 := 16#32
  let v98 : BitVec 32 := Scalar.muli v2 c16_i32_69
  let v99 : BitVec 32 := Scalar.addi c0_i32_70 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_71 : BitVec 32 := 4#32
  let v100 : BitVec 32 := Scalar.muli v5 c4_i32_71
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v68 : BitVec 32 := Scalar.subi v8 c1_i32_46
  let c4_i32_47 : BitVec 32 := 4#32
  let c0_i32_48 : BitVec 32 := 0#32
  let v69 : BitVec 1 := Scalar.cmpi .eq c4_i32_47 c0_i32_48
  let c1_i32_49 : BitVec 32 := 1#32
  let v70 : BitVec 32 := Scalar.select v69 c1_i32_49 c4_i32_47
  let v71 : BitVec 32 := Scalar.remsi v68 v70
  let c0_i32_51 : BitVec 32 := 0#32
  let v73 : BitVec 1 := Scalar.cmpi .slt v71 c0_i32_51
  let c0_i32_52 : BitVec 32 := 0#32
  let v74 : BitVec 1 := Scalar.cmpi .slt v70 c0_i32_52
  let v75 : BitVec 1 := Scalar.xori v73 v74
  let c0_i32_50 : BitVec 32 := 0#32
  let v72 : BitVec 1 := Scalar.cmpi .ne v71 c0_i32_50
  let v76 : BitVec 1 := Scalar.andi v75 v72
  let v77 : BitVec 32 := Scalar.addi v71 v70
  let v78 : BitVec 32 := Scalar.select v76 v77 v71
  let c1_i32_72 : BitVec 32 := 1#32
  let v102 : BitVec 32 := Scalar.muli v78 c1_i32_72
  let v103 : BitVec 32 := Scalar.addi v101 v102
  v103.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32 : BitVec 32 := 128#32
  let v104 : BitVec 32 := Scalar.muli v11 c128_i32
  let v105 : Index := Scalar.indexCast v104
  let c0 : Index := 0#32
  ![v105.toNat, 0]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_76 : BitVec 32 := 3#32
  let v111 : BitVec 1 := Scalar.cmpi .slt v8 c3_i32_76
  let v112 : BitVec 32 := Scalar.extui v111
  let c0_i32_77 : BitVec 32 := 0#32
  let v113 : BitVec 1 := Scalar.cmpi .ne v112 c0_i32_77
  v113

def k0_off2 (d0 : Dev nD) : Fin 1 → Nat :=
  let c2_i32_1069 : BitVec 32 := 2#32
  let c0_i32_1068 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v44 : BitVec 32 := Scalar.addi v8 c1_i32_25
  let c3_i32 : BitVec 32 := 3#32
  let v45 : BitVec 32 := Scalar.minsi v44 c3_i32
  let v1496 : BitVec 32 := Scalar.subi v8 v45
  let v1497 : BitVec 32 := Scalar.absi v1496
  let c1_i32_1063 : BitVec 32 := 1#32
  let v1498 : BitVec 32 := Scalar.subi v1497 c1_i32_1063
  let v1499 : BitVec 32 := Scalar.minsi v1498 v45
  let c1_i32_1064 : BitVec 32 := 1#32
  let v1500 : BitVec 32 := Scalar.subi v1497 c1_i32_1064
  let c3_i32_1065 : BitVec 32 := 3#32
  let v1501 : BitVec 32 := Scalar.subi c3_i32_1065 v45
  let v1502 : BitVec 32 := Scalar.minsi v1500 v1501
  let v1503 : BitVec 32 := Scalar.addi v1499 v1502
  let v1504 : BitVec 1 := Scalar.cmpi .sgt v8 v45
  let v1505 : BitVec 1 := Scalar.cmpi .sle v1497 v45
  let v1506 : BitVec 1 := Scalar.andi v1504 v1505
  let c1_i32_1066 : BitVec 32 := 1#32
  let c0_i32_1067 : BitVec 32 := 0#32
  let v1507 : BitVec 32 := Scalar.select v1506 c1_i32_1066 c0_i32_1067
  let v1508 : BitVec 32 := Scalar.addi v1503 v1507
  let v1509 : BitVec 32 := Scalar.maxsi c0_i32_1068 v1508
  let v1510 : BitVec 32 := Scalar.minsi c2_i32_1069 v1509
  ![v1510.toNat]
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_1061 : BitVec 32 := 1024#32
  let v1493 : BitVec 32 := Scalar.muli v8 c1024_i32_1061
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1062 : BitVec 32 := 128#32
  let v1494 : BitVec 32 := Scalar.muli v11 c128_i32_1062
  let v1495 : BitVec 32 := Scalar.addi v1493 v1494
  let c0_i32_1075 : BitVec 32 := 0#32
  ![v1495.toNat, 0]
def k0_dev5 (d0 : Dev nD) : Nat :=
  let c0_i32_1072 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1071 : BitVec 32 := 16#32
  let v1511 : BitVec 32 := Scalar.muli v2 c16_i32_1071
  let v1512 : BitVec 32 := Scalar.addi c0_i32_1072 v1511
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1073 : BitVec 32 := 4#32
  let v1513 : BitVec 32 := Scalar.muli v5 c4_i32_1073
  let v1514 : BitVec 32 := Scalar.addi v1512 v1513
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v44 : BitVec 32 := Scalar.addi v8 c1_i32_25
  let c3_i32 : BitVec 32 := 3#32
  let v45 : BitVec 32 := Scalar.minsi v44 c3_i32
  let c1_i32_1074 : BitVec 32 := 1#32
  let v1515 : BitVec 32 := Scalar.muli v45 c1_i32_1074
  let v1516 : BitVec 32 := Scalar.addi v1514 v1515
  v1516.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_78 : BitVec 32 := 0#32
  let v114 : BitVec 1 := Scalar.cmpi .sgt v8 c0_i32_78
  let v115 : BitVec 32 := Scalar.extui v114
  let c0_i32_79 : BitVec 32 := 0#32
  let v116 : BitVec 1 := Scalar.cmpi .ne v115 c0_i32_79
  v116

def k0_off4 (d0 : Dev nD) : Fin 1 → Nat :=
  let c2_i32_1069 : BitVec 32 := 2#32
  let c0_i32_1068 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v46 : BitVec 32 := Scalar.subi v8 c1_i32_26
  let c0_i32_27 : BitVec 32 := 0#32
  let v47 : BitVec 32 := Scalar.maxsi v46 c0_i32_27
  let v1496 : BitVec 32 := Scalar.subi v8 v47
  let v1497 : BitVec 32 := Scalar.absi v1496
  let c1_i32_1063 : BitVec 32 := 1#32
  let v1498 : BitVec 32 := Scalar.subi v1497 c1_i32_1063
  let v1499 : BitVec 32 := Scalar.minsi v1498 v47
  let c1_i32_1064 : BitVec 32 := 1#32
  let v1500 : BitVec 32 := Scalar.subi v1497 c1_i32_1064
  let c3_i32_1065 : BitVec 32 := 3#32
  let v1501 : BitVec 32 := Scalar.subi c3_i32_1065 v47
  let v1502 : BitVec 32 := Scalar.minsi v1500 v1501
  let v1503 : BitVec 32 := Scalar.addi v1499 v1502
  let v1504 : BitVec 1 := Scalar.cmpi .sgt v8 v47
  let v1505 : BitVec 1 := Scalar.cmpi .sle v1497 v47
  let v1506 : BitVec 1 := Scalar.andi v1504 v1505
  let c1_i32_1066 : BitVec 32 := 1#32
  let c0_i32_1067 : BitVec 32 := 0#32
  let v1507 : BitVec 32 := Scalar.select v1506 c1_i32_1066 c0_i32_1067
  let v1508 : BitVec 32 := Scalar.addi v1503 v1507
  let v1509 : BitVec 32 := Scalar.maxsi c0_i32_1068 v1508
  let v1510 : BitVec 32 := Scalar.minsi c2_i32_1069 v1509
  ![v1510.toNat]
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_1061 : BitVec 32 := 1024#32
  let v1493 : BitVec 32 := Scalar.muli v8 c1024_i32_1061
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1062 : BitVec 32 := 128#32
  let v1494 : BitVec 32 := Scalar.muli v11 c128_i32_1062
  let v1495 : BitVec 32 := Scalar.addi v1493 v1494
  let c0_i32_1075 : BitVec 32 := 0#32
  ![v1495.toNat, 0]
def k0_dev6 (d0 : Dev nD) : Nat :=
  let c0_i32_1072 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1071 : BitVec 32 := 16#32
  let v1511 : BitVec 32 := Scalar.muli v2 c16_i32_1071
  let v1512 : BitVec 32 := Scalar.addi c0_i32_1072 v1511
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1073 : BitVec 32 := 4#32
  let v1513 : BitVec 32 := Scalar.muli v5 c4_i32_1073
  let v1514 : BitVec 32 := Scalar.addi v1512 v1513
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v46 : BitVec 32 := Scalar.subi v8 c1_i32_26
  let c0_i32_27 : BitVec 32 := 0#32
  let v47 : BitVec 32 := Scalar.maxsi v46 c0_i32_27
  let c1_i32_1074 : BitVec 32 := 1#32
  let v1515 : BitVec 32 := Scalar.muli v47 c1_i32_1074
  let v1516 : BitVec 32 := Scalar.addi v1514 v1515
  v1516.toNat
def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32 : BitVec 32 := 1024#32
  let v119 : BitVec 32 := Scalar.muli v8 c1024_i32
  let v120 : Index := Scalar.indexCast v119
  let c0_82 : Index := 0#32
  ![v120.toNat, 0]
def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let c1024_i32_83 : BitVec 32 := 1024#32
  let v122 : BitVec 32 := Scalar.muli v50 c1024_i32_83
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_84 : BitVec 32 := 128#32
  let v123 : BitVec 32 := Scalar.muli v11 c128_i32_84
  let v124 : BitVec 32 := Scalar.addi v122 v123
  let c0_i32_91 : BitVec 32 := 0#32
  ![v124.toNat, 0]
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let v134 : BitVec 1 := Scalar.cmpi .slt v50 v8
  let c3_i32_92 : BitVec 32 := 3#32
  let v135 : BitVec 1 := Scalar.cmpi .slt v8 c3_i32_92
  let v136 : BitVec 1 := Scalar.andi v134 v135
  let v137 : BitVec 32 := Scalar.extui v136
  let c0_i32_93 : BitVec 32 := 0#32
  let v138 : BitVec 1 := Scalar.cmpi .ne v137 c0_i32_93
  v138

def k0_off8 (d0 : Dev nD) : Fin 1 → Nat :=
  let c2_i32_1071 : BitVec 32 := 2#32
  let c0_i32_1070 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let c1_i32_25 : BitVec 32 := 1#32
  let v44 : BitVec 32 := Scalar.addi v8 c1_i32_25
  let c3_i32 : BitVec 32 := 3#32
  let v45 : BitVec 32 := Scalar.minsi v44 c3_i32
  let v1499 : BitVec 32 := Scalar.subi v50 v45
  let v1500 : BitVec 32 := Scalar.absi v1499
  let c1_i32_1065 : BitVec 32 := 1#32
  let v1501 : BitVec 32 := Scalar.subi v1500 c1_i32_1065
  let v1502 : BitVec 32 := Scalar.minsi v1501 v45
  let c1_i32_1066 : BitVec 32 := 1#32
  let v1503 : BitVec 32 := Scalar.subi v1500 c1_i32_1066
  let c3_i32_1067 : BitVec 32 := 3#32
  let v1504 : BitVec 32 := Scalar.subi c3_i32_1067 v45
  let v1505 : BitVec 32 := Scalar.minsi v1503 v1504
  let v1506 : BitVec 32 := Scalar.addi v1502 v1505
  let v1507 : BitVec 1 := Scalar.cmpi .sgt v50 v45
  let v1508 : BitVec 1 := Scalar.cmpi .sle v1500 v45
  let v1509 : BitVec 1 := Scalar.andi v1507 v1508
  let c1_i32_1068 : BitVec 32 := 1#32
  let c0_i32_1069 : BitVec 32 := 0#32
  let v1510 : BitVec 32 := Scalar.select v1509 c1_i32_1068 c0_i32_1069
  let v1511 : BitVec 32 := Scalar.addi v1506 v1510
  let v1512 : BitVec 32 := Scalar.maxsi c0_i32_1070 v1511
  let v1513 : BitVec 32 := Scalar.minsi c2_i32_1071 v1512
  ![v1513.toNat]
def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let c1024_i32_1063 : BitVec 32 := 1024#32
  let v1496 : BitVec 32 := Scalar.muli v50 c1024_i32_1063
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1064 : BitVec 32 := 128#32
  let v1497 : BitVec 32 := Scalar.muli v11 c128_i32_1064
  let v1498 : BitVec 32 := Scalar.addi v1496 v1497
  let c0_i32_1077 : BitVec 32 := 0#32
  ![v1498.toNat, 0]
def k0_dev7 (d0 : Dev nD) : Nat :=
  let c0_i32_1074 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1073 : BitVec 32 := 16#32
  let v1514 : BitVec 32 := Scalar.muli v2 c16_i32_1073
  let v1515 : BitVec 32 := Scalar.addi c0_i32_1074 v1514
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1075 : BitVec 32 := 4#32
  let v1516 : BitVec 32 := Scalar.muli v5 c4_i32_1075
  let v1517 : BitVec 32 := Scalar.addi v1515 v1516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v44 : BitVec 32 := Scalar.addi v8 c1_i32_25
  let c3_i32 : BitVec 32 := 3#32
  let v45 : BitVec 32 := Scalar.minsi v44 c3_i32
  let c1_i32_1076 : BitVec 32 := 1#32
  let v1518 : BitVec 32 := Scalar.muli v45 c1_i32_1076
  let v1519 : BitVec 32 := Scalar.addi v1517 v1518
  v1519.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let v139 : BitVec 1 := Scalar.cmpi .sgt v50 v8
  let c0_i32_94 : BitVec 32 := 0#32
  let v140 : BitVec 1 := Scalar.cmpi .sgt v8 c0_i32_94
  let v141 : BitVec 1 := Scalar.andi v139 v140
  let v142 : BitVec 32 := Scalar.extui v141
  let c0_i32_95 : BitVec 32 := 0#32
  let v143 : BitVec 1 := Scalar.cmpi .ne v142 c0_i32_95
  v143

def k0_off10 (d0 : Dev nD) : Fin 1 → Nat :=
  let c2_i32_1071 : BitVec 32 := 2#32
  let c0_i32_1070 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let c1_i32_26 : BitVec 32 := 1#32
  let v46 : BitVec 32 := Scalar.subi v8 c1_i32_26
  let c0_i32_27 : BitVec 32 := 0#32
  let v47 : BitVec 32 := Scalar.maxsi v46 c0_i32_27
  let v1499 : BitVec 32 := Scalar.subi v50 v47
  let v1500 : BitVec 32 := Scalar.absi v1499
  let c1_i32_1065 : BitVec 32 := 1#32
  let v1501 : BitVec 32 := Scalar.subi v1500 c1_i32_1065
  let v1502 : BitVec 32 := Scalar.minsi v1501 v47
  let c1_i32_1066 : BitVec 32 := 1#32
  let v1503 : BitVec 32 := Scalar.subi v1500 c1_i32_1066
  let c3_i32_1067 : BitVec 32 := 3#32
  let v1504 : BitVec 32 := Scalar.subi c3_i32_1067 v47
  let v1505 : BitVec 32 := Scalar.minsi v1503 v1504
  let v1506 : BitVec 32 := Scalar.addi v1502 v1505
  let v1507 : BitVec 1 := Scalar.cmpi .sgt v50 v47
  let v1508 : BitVec 1 := Scalar.cmpi .sle v1500 v47
  let v1509 : BitVec 1 := Scalar.andi v1507 v1508
  let c1_i32_1068 : BitVec 32 := 1#32
  let c0_i32_1069 : BitVec 32 := 0#32
  let v1510 : BitVec 32 := Scalar.select v1509 c1_i32_1068 c0_i32_1069
  let v1511 : BitVec 32 := Scalar.addi v1506 v1510
  let v1512 : BitVec 32 := Scalar.maxsi c0_i32_1070 v1511
  let v1513 : BitVec 32 := Scalar.minsi c2_i32_1071 v1512
  ![v1513.toNat]
def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let c1024_i32_1063 : BitVec 32 := 1024#32
  let v1496 : BitVec 32 := Scalar.muli v50 c1024_i32_1063
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1064 : BitVec 32 := 128#32
  let v1497 : BitVec 32 := Scalar.muli v11 c128_i32_1064
  let v1498 : BitVec 32 := Scalar.addi v1496 v1497
  let c0_i32_1077 : BitVec 32 := 0#32
  ![v1498.toNat, 0]
def k0_dev8 (d0 : Dev nD) : Nat :=
  let c0_i32_1074 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1073 : BitVec 32 := 16#32
  let v1514 : BitVec 32 := Scalar.muli v2 c16_i32_1073
  let v1515 : BitVec 32 := Scalar.addi c0_i32_1074 v1514
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1075 : BitVec 32 := 4#32
  let v1516 : BitVec 32 := Scalar.muli v5 c4_i32_1075
  let v1517 : BitVec 32 := Scalar.addi v1515 v1516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v46 : BitVec 32 := Scalar.subi v8 c1_i32_26
  let c0_i32_27 : BitVec 32 := 0#32
  let v47 : BitVec 32 := Scalar.maxsi v46 c0_i32_27
  let c1_i32_1076 : BitVec 32 := 1#32
  let v1518 : BitVec 32 := Scalar.muli v47 c1_i32_1076
  let v1519 : BitVec 32 := Scalar.addi v1517 v1518
  v1519.toNat
def k0_dev9 (d0 : Dev nD) : Nat :=
  let c0_i32_103 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_102 : BitVec 32 := 16#32
  let v150 : BitVec 32 := Scalar.muli v24 c16_i32_102
  let v151 : BitVec 32 := Scalar.addi c0_i32_103 v150
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_104 : BitVec 32 := 4#32
  let v152 : BitVec 32 := Scalar.muli v27 c4_i32_104
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v154 : BitVec 32 := Scalar.muli v8 c1_i32_105
  let v155 : BitVec 32 := Scalar.addi v153 v154
  v155.toNat
def k0_dev10 (d0 : Dev nD) : Nat :=
  let c0_i32_115 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_114 : BitVec 32 := 16#32
  let v168 : BitVec 32 := Scalar.muli v40 c16_i32_114
  let v169 : BitVec 32 := Scalar.addi c0_i32_115 v168
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_116 : BitVec 32 := 4#32
  let v170 : BitVec 32 := Scalar.muli v43 c4_i32_116
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v172 : BitVec 32 := Scalar.muli v8 c1_i32_117
  let v173 : BitVec 32 := Scalar.addi v171 v172
  v173.toNat
def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let c1024_i32_120 : BitVec 32 := 1024#32
  let v180 : BitVec 32 := Scalar.muli v54 c1024_i32_120
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_121 : BitVec 32 := 128#32
  let v181 : BitVec 32 := Scalar.muli v11 c128_i32_121
  let v182 : BitVec 32 := Scalar.addi v180 v181
  let c0_i32_128 : BitVec 32 := 0#32
  ![v182.toNat, 0]
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let v192 : BitVec 1 := Scalar.cmpi .slt v54 v8
  let c3_i32_129 : BitVec 32 := 3#32
  let v193 : BitVec 1 := Scalar.cmpi .slt v8 c3_i32_129
  let v194 : BitVec 1 := Scalar.andi v192 v193
  let v195 : BitVec 32 := Scalar.extui v194
  let c0_i32_130 : BitVec 32 := 0#32
  let v196 : BitVec 1 := Scalar.cmpi .ne v195 c0_i32_130
  v196

def k0_off13 (d0 : Dev nD) : Fin 1 → Nat :=
  let c2_i32_1071 : BitVec 32 := 2#32
  let c0_i32_1070 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let c1_i32_25 : BitVec 32 := 1#32
  let v44 : BitVec 32 := Scalar.addi v8 c1_i32_25
  let c3_i32 : BitVec 32 := 3#32
  let v45 : BitVec 32 := Scalar.minsi v44 c3_i32
  let v1499 : BitVec 32 := Scalar.subi v54 v45
  let v1500 : BitVec 32 := Scalar.absi v1499
  let c1_i32_1065 : BitVec 32 := 1#32
  let v1501 : BitVec 32 := Scalar.subi v1500 c1_i32_1065
  let v1502 : BitVec 32 := Scalar.minsi v1501 v45
  let c1_i32_1066 : BitVec 32 := 1#32
  let v1503 : BitVec 32 := Scalar.subi v1500 c1_i32_1066
  let c3_i32_1067 : BitVec 32 := 3#32
  let v1504 : BitVec 32 := Scalar.subi c3_i32_1067 v45
  let v1505 : BitVec 32 := Scalar.minsi v1503 v1504
  let v1506 : BitVec 32 := Scalar.addi v1502 v1505
  let v1507 : BitVec 1 := Scalar.cmpi .sgt v54 v45
  let v1508 : BitVec 1 := Scalar.cmpi .sle v1500 v45
  let v1509 : BitVec 1 := Scalar.andi v1507 v1508
  let c1_i32_1068 : BitVec 32 := 1#32
  let c0_i32_1069 : BitVec 32 := 0#32
  let v1510 : BitVec 32 := Scalar.select v1509 c1_i32_1068 c0_i32_1069
  let v1511 : BitVec 32 := Scalar.addi v1506 v1510
  let v1512 : BitVec 32 := Scalar.maxsi c0_i32_1070 v1511
  let v1513 : BitVec 32 := Scalar.minsi c2_i32_1071 v1512
  ![v1513.toNat]
def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let c1024_i32_1063 : BitVec 32 := 1024#32
  let v1496 : BitVec 32 := Scalar.muli v54 c1024_i32_1063
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1064 : BitVec 32 := 128#32
  let v1497 : BitVec 32 := Scalar.muli v11 c128_i32_1064
  let v1498 : BitVec 32 := Scalar.addi v1496 v1497
  let c0_i32_1077 : BitVec 32 := 0#32
  ![v1498.toNat, 0]
def k0_dev11 (d0 : Dev nD) : Nat :=
  let c0_i32_1074 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1073 : BitVec 32 := 16#32
  let v1514 : BitVec 32 := Scalar.muli v2 c16_i32_1073
  let v1515 : BitVec 32 := Scalar.addi c0_i32_1074 v1514
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1075 : BitVec 32 := 4#32
  let v1516 : BitVec 32 := Scalar.muli v5 c4_i32_1075
  let v1517 : BitVec 32 := Scalar.addi v1515 v1516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v44 : BitVec 32 := Scalar.addi v8 c1_i32_25
  let c3_i32 : BitVec 32 := 3#32
  let v45 : BitVec 32 := Scalar.minsi v44 c3_i32
  let c1_i32_1076 : BitVec 32 := 1#32
  let v1518 : BitVec 32 := Scalar.muli v45 c1_i32_1076
  let v1519 : BitVec 32 := Scalar.addi v1517 v1518
  v1519.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let v197 : BitVec 1 := Scalar.cmpi .sgt v54 v8
  let c0_i32_131 : BitVec 32 := 0#32
  let v198 : BitVec 1 := Scalar.cmpi .sgt v8 c0_i32_131
  let v199 : BitVec 1 := Scalar.andi v197 v198
  let v200 : BitVec 32 := Scalar.extui v199
  let c0_i32_132 : BitVec 32 := 0#32
  let v201 : BitVec 1 := Scalar.cmpi .ne v200 c0_i32_132
  v201

def k0_off15 (d0 : Dev nD) : Fin 1 → Nat :=
  let c2_i32_1071 : BitVec 32 := 2#32
  let c0_i32_1070 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let c1_i32_26 : BitVec 32 := 1#32
  let v46 : BitVec 32 := Scalar.subi v8 c1_i32_26
  let c0_i32_27 : BitVec 32 := 0#32
  let v47 : BitVec 32 := Scalar.maxsi v46 c0_i32_27
  let v1499 : BitVec 32 := Scalar.subi v54 v47
  let v1500 : BitVec 32 := Scalar.absi v1499
  let c1_i32_1065 : BitVec 32 := 1#32
  let v1501 : BitVec 32 := Scalar.subi v1500 c1_i32_1065
  let v1502 : BitVec 32 := Scalar.minsi v1501 v47
  let c1_i32_1066 : BitVec 32 := 1#32
  let v1503 : BitVec 32 := Scalar.subi v1500 c1_i32_1066
  let c3_i32_1067 : BitVec 32 := 3#32
  let v1504 : BitVec 32 := Scalar.subi c3_i32_1067 v47
  let v1505 : BitVec 32 := Scalar.minsi v1503 v1504
  let v1506 : BitVec 32 := Scalar.addi v1502 v1505
  let v1507 : BitVec 1 := Scalar.cmpi .sgt v54 v47
  let v1508 : BitVec 1 := Scalar.cmpi .sle v1500 v47
  let v1509 : BitVec 1 := Scalar.andi v1507 v1508
  let c1_i32_1068 : BitVec 32 := 1#32
  let c0_i32_1069 : BitVec 32 := 0#32
  let v1510 : BitVec 32 := Scalar.select v1509 c1_i32_1068 c0_i32_1069
  let v1511 : BitVec 32 := Scalar.addi v1506 v1510
  let v1512 : BitVec 32 := Scalar.maxsi c0_i32_1070 v1511
  let v1513 : BitVec 32 := Scalar.minsi c2_i32_1071 v1512
  ![v1513.toNat]
def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let c1024_i32_1063 : BitVec 32 := 1024#32
  let v1496 : BitVec 32 := Scalar.muli v54 c1024_i32_1063
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1064 : BitVec 32 := 128#32
  let v1497 : BitVec 32 := Scalar.muli v11 c128_i32_1064
  let v1498 : BitVec 32 := Scalar.addi v1496 v1497
  let c0_i32_1077 : BitVec 32 := 0#32
  ![v1498.toNat, 0]
def k0_dev12 (d0 : Dev nD) : Nat :=
  let c0_i32_1074 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1073 : BitVec 32 := 16#32
  let v1514 : BitVec 32 := Scalar.muli v2 c16_i32_1073
  let v1515 : BitVec 32 := Scalar.addi c0_i32_1074 v1514
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1075 : BitVec 32 := 4#32
  let v1516 : BitVec 32 := Scalar.muli v5 c4_i32_1075
  let v1517 : BitVec 32 := Scalar.addi v1515 v1516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v46 : BitVec 32 := Scalar.subi v8 c1_i32_26
  let c0_i32_27 : BitVec 32 := 0#32
  let v47 : BitVec 32 := Scalar.maxsi v46 c0_i32_27
  let c1_i32_1076 : BitVec 32 := 1#32
  let v1518 : BitVec 32 := Scalar.muli v47 c1_i32_1076
  let v1519 : BitVec 32 := Scalar.addi v1517 v1518
  v1519.toNat
def k0_dev13 (d0 : Dev nD) : Nat :=
  let c0_i32_140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_139 : BitVec 32 := 16#32
  let v208 : BitVec 32 := Scalar.muli v24 c16_i32_139
  let v209 : BitVec 32 := Scalar.addi c0_i32_140 v208
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_141 : BitVec 32 := 4#32
  let v210 : BitVec 32 := Scalar.muli v27 c4_i32_141
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v212 : BitVec 32 := Scalar.muli v8 c1_i32_142
  let v213 : BitVec 32 := Scalar.addi v211 v212
  v213.toNat
def k0_dev14 (d0 : Dev nD) : Nat :=
  let c0_i32_152 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_151 : BitVec 32 := 16#32
  let v226 : BitVec 32 := Scalar.muli v40 c16_i32_151
  let v227 : BitVec 32 := Scalar.addi c0_i32_152 v226
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_153 : BitVec 32 := 4#32
  let v228 : BitVec 32 := Scalar.muli v43 c4_i32_153
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v230 : BitVec 32 := Scalar.muli v8 c1_i32_154
  let v231 : BitVec 32 := Scalar.addi v229 v230
  v231.toNat
def k0_off17 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let c1024_i32_157 : BitVec 32 := 1024#32
  let v238 : BitVec 32 := Scalar.muli v56 c1024_i32_157
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_158 : BitVec 32 := 128#32
  let v239 : BitVec 32 := Scalar.muli v11 c128_i32_158
  let v240 : BitVec 32 := Scalar.addi v238 v239
  let c0_i32_165 : BitVec 32 := 0#32
  ![v240.toNat, 0]
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let v250 : BitVec 1 := Scalar.cmpi .slt v56 v8
  let c3_i32_166 : BitVec 32 := 3#32
  let v251 : BitVec 1 := Scalar.cmpi .slt v8 c3_i32_166
  let v252 : BitVec 1 := Scalar.andi v250 v251
  let v253 : BitVec 32 := Scalar.extui v252
  let c0_i32_167 : BitVec 32 := 0#32
  let v254 : BitVec 1 := Scalar.cmpi .ne v253 c0_i32_167
  v254

def k0_off18 (d0 : Dev nD) : Fin 1 → Nat :=
  let c2_i32_1071 : BitVec 32 := 2#32
  let c0_i32_1070 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let c1_i32_25 : BitVec 32 := 1#32
  let v44 : BitVec 32 := Scalar.addi v8 c1_i32_25
  let c3_i32 : BitVec 32 := 3#32
  let v45 : BitVec 32 := Scalar.minsi v44 c3_i32
  let v1499 : BitVec 32 := Scalar.subi v56 v45
  let v1500 : BitVec 32 := Scalar.absi v1499
  let c1_i32_1065 : BitVec 32 := 1#32
  let v1501 : BitVec 32 := Scalar.subi v1500 c1_i32_1065
  let v1502 : BitVec 32 := Scalar.minsi v1501 v45
  let c1_i32_1066 : BitVec 32 := 1#32
  let v1503 : BitVec 32 := Scalar.subi v1500 c1_i32_1066
  let c3_i32_1067 : BitVec 32 := 3#32
  let v1504 : BitVec 32 := Scalar.subi c3_i32_1067 v45
  let v1505 : BitVec 32 := Scalar.minsi v1503 v1504
  let v1506 : BitVec 32 := Scalar.addi v1502 v1505
  let v1507 : BitVec 1 := Scalar.cmpi .sgt v56 v45
  let v1508 : BitVec 1 := Scalar.cmpi .sle v1500 v45
  let v1509 : BitVec 1 := Scalar.andi v1507 v1508
  let c1_i32_1068 : BitVec 32 := 1#32
  let c0_i32_1069 : BitVec 32 := 0#32
  let v1510 : BitVec 32 := Scalar.select v1509 c1_i32_1068 c0_i32_1069
  let v1511 : BitVec 32 := Scalar.addi v1506 v1510
  let v1512 : BitVec 32 := Scalar.maxsi c0_i32_1070 v1511
  let v1513 : BitVec 32 := Scalar.minsi c2_i32_1071 v1512
  ![v1513.toNat]
def k0_off19 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let c1024_i32_1063 : BitVec 32 := 1024#32
  let v1496 : BitVec 32 := Scalar.muli v56 c1024_i32_1063
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1064 : BitVec 32 := 128#32
  let v1497 : BitVec 32 := Scalar.muli v11 c128_i32_1064
  let v1498 : BitVec 32 := Scalar.addi v1496 v1497
  let c0_i32_1077 : BitVec 32 := 0#32
  ![v1498.toNat, 0]
def k0_dev15 (d0 : Dev nD) : Nat :=
  let c0_i32_1074 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1073 : BitVec 32 := 16#32
  let v1514 : BitVec 32 := Scalar.muli v2 c16_i32_1073
  let v1515 : BitVec 32 := Scalar.addi c0_i32_1074 v1514
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1075 : BitVec 32 := 4#32
  let v1516 : BitVec 32 := Scalar.muli v5 c4_i32_1075
  let v1517 : BitVec 32 := Scalar.addi v1515 v1516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v44 : BitVec 32 := Scalar.addi v8 c1_i32_25
  let c3_i32 : BitVec 32 := 3#32
  let v45 : BitVec 32 := Scalar.minsi v44 c3_i32
  let c1_i32_1076 : BitVec 32 := 1#32
  let v1518 : BitVec 32 := Scalar.muli v45 c1_i32_1076
  let v1519 : BitVec 32 := Scalar.addi v1517 v1518
  v1519.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let v255 : BitVec 1 := Scalar.cmpi .sgt v56 v8
  let c0_i32_168 : BitVec 32 := 0#32
  let v256 : BitVec 1 := Scalar.cmpi .sgt v8 c0_i32_168
  let v257 : BitVec 1 := Scalar.andi v255 v256
  let v258 : BitVec 32 := Scalar.extui v257
  let c0_i32_169 : BitVec 32 := 0#32
  let v259 : BitVec 1 := Scalar.cmpi .ne v258 c0_i32_169
  v259

def k0_off20 (d0 : Dev nD) : Fin 1 → Nat :=
  let c2_i32_1071 : BitVec 32 := 2#32
  let c0_i32_1070 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let c1_i32_26 : BitVec 32 := 1#32
  let v46 : BitVec 32 := Scalar.subi v8 c1_i32_26
  let c0_i32_27 : BitVec 32 := 0#32
  let v47 : BitVec 32 := Scalar.maxsi v46 c0_i32_27
  let v1499 : BitVec 32 := Scalar.subi v56 v47
  let v1500 : BitVec 32 := Scalar.absi v1499
  let c1_i32_1065 : BitVec 32 := 1#32
  let v1501 : BitVec 32 := Scalar.subi v1500 c1_i32_1065
  let v1502 : BitVec 32 := Scalar.minsi v1501 v47
  let c1_i32_1066 : BitVec 32 := 1#32
  let v1503 : BitVec 32 := Scalar.subi v1500 c1_i32_1066
  let c3_i32_1067 : BitVec 32 := 3#32
  let v1504 : BitVec 32 := Scalar.subi c3_i32_1067 v47
  let v1505 : BitVec 32 := Scalar.minsi v1503 v1504
  let v1506 : BitVec 32 := Scalar.addi v1502 v1505
  let v1507 : BitVec 1 := Scalar.cmpi .sgt v56 v47
  let v1508 : BitVec 1 := Scalar.cmpi .sle v1500 v47
  let v1509 : BitVec 1 := Scalar.andi v1507 v1508
  let c1_i32_1068 : BitVec 32 := 1#32
  let c0_i32_1069 : BitVec 32 := 0#32
  let v1510 : BitVec 32 := Scalar.select v1509 c1_i32_1068 c0_i32_1069
  let v1511 : BitVec 32 := Scalar.addi v1506 v1510
  let v1512 : BitVec 32 := Scalar.maxsi c0_i32_1070 v1511
  let v1513 : BitVec 32 := Scalar.minsi c2_i32_1071 v1512
  ![v1513.toNat]
def k0_off21 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let c1024_i32_1063 : BitVec 32 := 1024#32
  let v1496 : BitVec 32 := Scalar.muli v56 c1024_i32_1063
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1064 : BitVec 32 := 128#32
  let v1497 : BitVec 32 := Scalar.muli v11 c128_i32_1064
  let v1498 : BitVec 32 := Scalar.addi v1496 v1497
  let c0_i32_1077 : BitVec 32 := 0#32
  ![v1498.toNat, 0]
def k0_dev16 (d0 : Dev nD) : Nat :=
  let c0_i32_1074 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1073 : BitVec 32 := 16#32
  let v1514 : BitVec 32 := Scalar.muli v2 c16_i32_1073
  let v1515 : BitVec 32 := Scalar.addi c0_i32_1074 v1514
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1075 : BitVec 32 := 4#32
  let v1516 : BitVec 32 := Scalar.muli v5 c4_i32_1075
  let v1517 : BitVec 32 := Scalar.addi v1515 v1516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v46 : BitVec 32 := Scalar.subi v8 c1_i32_26
  let c0_i32_27 : BitVec 32 := 0#32
  let v47 : BitVec 32 := Scalar.maxsi v46 c0_i32_27
  let c1_i32_1076 : BitVec 32 := 1#32
  let v1518 : BitVec 32 := Scalar.muli v47 c1_i32_1076
  let v1519 : BitVec 32 := Scalar.addi v1517 v1518
  v1519.toNat
def k0_dev17 (d0 : Dev nD) : Nat :=
  let c0_i32_177 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_176 : BitVec 32 := 16#32
  let v266 : BitVec 32 := Scalar.muli v24 c16_i32_176
  let v267 : BitVec 32 := Scalar.addi c0_i32_177 v266
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_178 : BitVec 32 := 4#32
  let v268 : BitVec 32 := Scalar.muli v27 c4_i32_178
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v270 : BitVec 32 := Scalar.muli v8 c1_i32_179
  let v271 : BitVec 32 := Scalar.addi v269 v270
  v271.toNat
def k0_dev18 (d0 : Dev nD) : Nat :=
  let c0_i32_189 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_188 : BitVec 32 := 16#32
  let v284 : BitVec 32 := Scalar.muli v40 c16_i32_188
  let v285 : BitVec 32 := Scalar.addi c0_i32_189 v284
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_190 : BitVec 32 := 4#32
  let v286 : BitVec 32 := Scalar.muli v43 c4_i32_190
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v288 : BitVec 32 := Scalar.muli v8 c1_i32_191
  let v289 : BitVec 32 := Scalar.addi v287 v288
  v289.toNat
def k0_off22 (d0 : Dev nD) (c0_i32_194 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let c1024_i32_204 : BitVec 32 := 1024#32
  let v311 : BitVec 32 := Scalar.muli v50 c1024_i32_204
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v296 : BitVec 32 := Scalar.subi v11 c0_i32_194
  let c1_i32_195 : BitVec 32 := 1#32
  let v297 : BitVec 32 := Scalar.subi v296 c1_i32_195
  let c8_i32_196 : BitVec 32 := 8#32
  let c0_i32_197 : BitVec 32 := 0#32
  let v298 : BitVec 1 := Scalar.cmpi .eq c8_i32_196 c0_i32_197
  let c1_i32_198 : BitVec 32 := 1#32
  let v299 : BitVec 32 := Scalar.select v298 c1_i32_198 c8_i32_196
  let v300 : BitVec 32 := Scalar.remsi v297 v299
  let c0_i32_200 : BitVec 32 := 0#32
  let v302 : BitVec 1 := Scalar.cmpi .slt v300 c0_i32_200
  let c0_i32_201 : BitVec 32 := 0#32
  let v303 : BitVec 1 := Scalar.cmpi .slt v299 c0_i32_201
  let v304 : BitVec 1 := Scalar.xori v302 v303
  let c0_i32_199 : BitVec 32 := 0#32
  let v301 : BitVec 1 := Scalar.cmpi .ne v300 c0_i32_199
  let v305 : BitVec 1 := Scalar.andi v304 v301
  let v306 : BitVec 32 := Scalar.addi v300 v299
  let v307 : BitVec 32 := Scalar.select v305 v306 v300
  let c128_i32_205 : BitVec 32 := 128#32
  let v312 : BitVec 32 := Scalar.muli v307 c128_i32_205
  let v313 : BitVec 32 := Scalar.addi v311 v312
  let c0_i32_212 : BitVec 32 := 0#32
  ![v313.toNat, 0]
def k0_dev19 (d0 : Dev nD) : Nat :=
  let c0_i32_230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_229 : BitVec 32 := 16#32
  let v340 : BitVec 32 := Scalar.muli v24 c16_i32_229
  let v341 : BitVec 32 := Scalar.addi c0_i32_230 v340
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_231 : BitVec 32 := 4#32
  let v342 : BitVec 32 := Scalar.muli v27 c4_i32_231
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v344 : BitVec 32 := Scalar.muli v8 c1_i32_232
  let v345 : BitVec 32 := Scalar.addi v343 v344
  v345.toNat
def k0_off23 (d0 : Dev nD) (c0_i32_235 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let c1024_i32_245 : BitVec 32 := 1024#32
  let v367 : BitVec 32 := Scalar.muli v50 c1024_i32_245
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v352 : BitVec 32 := Scalar.addi v11 c0_i32_235
  let c1_i32_236 : BitVec 32 := 1#32
  let v353 : BitVec 32 := Scalar.addi v352 c1_i32_236
  let c8_i32_237 : BitVec 32 := 8#32
  let c0_i32_238 : BitVec 32 := 0#32
  let v354 : BitVec 1 := Scalar.cmpi .eq c8_i32_237 c0_i32_238
  let c1_i32_239 : BitVec 32 := 1#32
  let v355 : BitVec 32 := Scalar.select v354 c1_i32_239 c8_i32_237
  let v356 : BitVec 32 := Scalar.remsi v353 v355
  let c0_i32_241 : BitVec 32 := 0#32
  let v358 : BitVec 1 := Scalar.cmpi .slt v356 c0_i32_241
  let c0_i32_242 : BitVec 32 := 0#32
  let v359 : BitVec 1 := Scalar.cmpi .slt v355 c0_i32_242
  let v360 : BitVec 1 := Scalar.xori v358 v359
  let c0_i32_240 : BitVec 32 := 0#32
  let v357 : BitVec 1 := Scalar.cmpi .ne v356 c0_i32_240
  let v361 : BitVec 1 := Scalar.andi v360 v357
  let v362 : BitVec 32 := Scalar.addi v356 v355
  let v363 : BitVec 32 := Scalar.select v361 v362 v356
  let c128_i32_246 : BitVec 32 := 128#32
  let v368 : BitVec 32 := Scalar.muli v363 c128_i32_246
  let v369 : BitVec 32 := Scalar.addi v367 v368
  let c0_i32_253 : BitVec 32 := 0#32
  ![v369.toNat, 0]
def k0_dev20 (d0 : Dev nD) : Nat :=
  let c0_i32_271 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_270 : BitVec 32 := 16#32
  let v396 : BitVec 32 := Scalar.muli v40 c16_i32_270
  let v397 : BitVec 32 := Scalar.addi c0_i32_271 v396
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_272 : BitVec 32 := 4#32
  let v398 : BitVec 32 := Scalar.muli v43 c4_i32_272
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v400 : BitVec 32 := Scalar.muli v8 c1_i32_273
  let v401 : BitVec 32 := Scalar.addi v399 v400
  v401.toNat
def k0_off24 (d0 : Dev nD) (c0_i32_276 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let c1024_i32_286 : BitVec 32 := 1024#32
  let v423 : BitVec 32 := Scalar.muli v54 c1024_i32_286
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v408 : BitVec 32 := Scalar.subi v11 c0_i32_276
  let c1_i32_277 : BitVec 32 := 1#32
  let v409 : BitVec 32 := Scalar.subi v408 c1_i32_277
  let c8_i32_278 : BitVec 32 := 8#32
  let c0_i32_279 : BitVec 32 := 0#32
  let v410 : BitVec 1 := Scalar.cmpi .eq c8_i32_278 c0_i32_279
  let c1_i32_280 : BitVec 32 := 1#32
  let v411 : BitVec 32 := Scalar.select v410 c1_i32_280 c8_i32_278
  let v412 : BitVec 32 := Scalar.remsi v409 v411
  let c0_i32_282 : BitVec 32 := 0#32
  let v414 : BitVec 1 := Scalar.cmpi .slt v412 c0_i32_282
  let c0_i32_283 : BitVec 32 := 0#32
  let v415 : BitVec 1 := Scalar.cmpi .slt v411 c0_i32_283
  let v416 : BitVec 1 := Scalar.xori v414 v415
  let c0_i32_281 : BitVec 32 := 0#32
  let v413 : BitVec 1 := Scalar.cmpi .ne v412 c0_i32_281
  let v417 : BitVec 1 := Scalar.andi v416 v413
  let v418 : BitVec 32 := Scalar.addi v412 v411
  let v419 : BitVec 32 := Scalar.select v417 v418 v412
  let c128_i32_287 : BitVec 32 := 128#32
  let v424 : BitVec 32 := Scalar.muli v419 c128_i32_287
  let v425 : BitVec 32 := Scalar.addi v423 v424
  let c0_i32_294 : BitVec 32 := 0#32
  ![v425.toNat, 0]
def k0_dev21 (d0 : Dev nD) : Nat :=
  let c0_i32_311 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_310 : BitVec 32 := 16#32
  let v452 : BitVec 32 := Scalar.muli v24 c16_i32_310
  let v453 : BitVec 32 := Scalar.addi c0_i32_311 v452
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_312 : BitVec 32 := 4#32
  let v454 : BitVec 32 := Scalar.muli v27 c4_i32_312
  let v455 : BitVec 32 := Scalar.addi v453 v454
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v456 : BitVec 32 := Scalar.muli v8 c1_i32_313
  let v457 : BitVec 32 := Scalar.addi v455 v456
  v457.toNat
def k0_off25 (d0 : Dev nD) (c0_i32_316 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let c1024_i32_326 : BitVec 32 := 1024#32
  let v479 : BitVec 32 := Scalar.muli v54 c1024_i32_326
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v464 : BitVec 32 := Scalar.addi v11 c0_i32_316
  let c1_i32_317 : BitVec 32 := 1#32
  let v465 : BitVec 32 := Scalar.addi v464 c1_i32_317
  let c8_i32_318 : BitVec 32 := 8#32
  let c0_i32_319 : BitVec 32 := 0#32
  let v466 : BitVec 1 := Scalar.cmpi .eq c8_i32_318 c0_i32_319
  let c1_i32_320 : BitVec 32 := 1#32
  let v467 : BitVec 32 := Scalar.select v466 c1_i32_320 c8_i32_318
  let v468 : BitVec 32 := Scalar.remsi v465 v467
  let c0_i32_322 : BitVec 32 := 0#32
  let v470 : BitVec 1 := Scalar.cmpi .slt v468 c0_i32_322
  let c0_i32_323 : BitVec 32 := 0#32
  let v471 : BitVec 1 := Scalar.cmpi .slt v467 c0_i32_323
  let v472 : BitVec 1 := Scalar.xori v470 v471
  let c0_i32_321 : BitVec 32 := 0#32
  let v469 : BitVec 1 := Scalar.cmpi .ne v468 c0_i32_321
  let v473 : BitVec 1 := Scalar.andi v472 v469
  let v474 : BitVec 32 := Scalar.addi v468 v467
  let v475 : BitVec 32 := Scalar.select v473 v474 v468
  let c128_i32_327 : BitVec 32 := 128#32
  let v480 : BitVec 32 := Scalar.muli v475 c128_i32_327
  let v481 : BitVec 32 := Scalar.addi v479 v480
  let c0_i32_334 : BitVec 32 := 0#32
  ![v481.toNat, 0]
def k0_dev22 (d0 : Dev nD) : Nat :=
  let c0_i32_352 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_351 : BitVec 32 := 16#32
  let v508 : BitVec 32 := Scalar.muli v40 c16_i32_351
  let v509 : BitVec 32 := Scalar.addi c0_i32_352 v508
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_353 : BitVec 32 := 4#32
  let v510 : BitVec 32 := Scalar.muli v43 c4_i32_353
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v512 : BitVec 32 := Scalar.muli v8 c1_i32_354
  let v513 : BitVec 32 := Scalar.addi v511 v512
  v513.toNat
def k0_off26 (d0 : Dev nD) (c0_i32_357 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let c1024_i32_367 : BitVec 32 := 1024#32
  let v535 : BitVec 32 := Scalar.muli v56 c1024_i32_367
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v520 : BitVec 32 := Scalar.subi v11 c0_i32_357
  let c1_i32_358 : BitVec 32 := 1#32
  let v521 : BitVec 32 := Scalar.subi v520 c1_i32_358
  let c8_i32_359 : BitVec 32 := 8#32
  let c0_i32_360 : BitVec 32 := 0#32
  let v522 : BitVec 1 := Scalar.cmpi .eq c8_i32_359 c0_i32_360
  let c1_i32_361 : BitVec 32 := 1#32
  let v523 : BitVec 32 := Scalar.select v522 c1_i32_361 c8_i32_359
  let v524 : BitVec 32 := Scalar.remsi v521 v523
  let c0_i32_363 : BitVec 32 := 0#32
  let v526 : BitVec 1 := Scalar.cmpi .slt v524 c0_i32_363
  let c0_i32_364 : BitVec 32 := 0#32
  let v527 : BitVec 1 := Scalar.cmpi .slt v523 c0_i32_364
  let v528 : BitVec 1 := Scalar.xori v526 v527
  let c0_i32_362 : BitVec 32 := 0#32
  let v525 : BitVec 1 := Scalar.cmpi .ne v524 c0_i32_362
  let v529 : BitVec 1 := Scalar.andi v528 v525
  let v530 : BitVec 32 := Scalar.addi v524 v523
  let v531 : BitVec 32 := Scalar.select v529 v530 v524
  let c128_i32_368 : BitVec 32 := 128#32
  let v536 : BitVec 32 := Scalar.muli v531 c128_i32_368
  let v537 : BitVec 32 := Scalar.addi v535 v536
  let c0_i32_375 : BitVec 32 := 0#32
  ![v537.toNat, 0]
def k0_dev23 (d0 : Dev nD) : Nat :=
  let c0_i32_392 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_391 : BitVec 32 := 16#32
  let v564 : BitVec 32 := Scalar.muli v24 c16_i32_391
  let v565 : BitVec 32 := Scalar.addi c0_i32_392 v564
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_393 : BitVec 32 := 4#32
  let v566 : BitVec 32 := Scalar.muli v27 c4_i32_393
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_394 : BitVec 32 := 1#32
  let v568 : BitVec 32 := Scalar.muli v8 c1_i32_394
  let v569 : BitVec 32 := Scalar.addi v567 v568
  v569.toNat
def k0_off27 (d0 : Dev nD) (c0_i32_397 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let c1024_i32_407 : BitVec 32 := 1024#32
  let v591 : BitVec 32 := Scalar.muli v56 c1024_i32_407
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v576 : BitVec 32 := Scalar.addi v11 c0_i32_397
  let c1_i32_398 : BitVec 32 := 1#32
  let v577 : BitVec 32 := Scalar.addi v576 c1_i32_398
  let c8_i32_399 : BitVec 32 := 8#32
  let c0_i32_400 : BitVec 32 := 0#32
  let v578 : BitVec 1 := Scalar.cmpi .eq c8_i32_399 c0_i32_400
  let c1_i32_401 : BitVec 32 := 1#32
  let v579 : BitVec 32 := Scalar.select v578 c1_i32_401 c8_i32_399
  let v580 : BitVec 32 := Scalar.remsi v577 v579
  let c0_i32_403 : BitVec 32 := 0#32
  let v582 : BitVec 1 := Scalar.cmpi .slt v580 c0_i32_403
  let c0_i32_404 : BitVec 32 := 0#32
  let v583 : BitVec 1 := Scalar.cmpi .slt v579 c0_i32_404
  let v584 : BitVec 1 := Scalar.xori v582 v583
  let c0_i32_402 : BitVec 32 := 0#32
  let v581 : BitVec 1 := Scalar.cmpi .ne v580 c0_i32_402
  let v585 : BitVec 1 := Scalar.andi v584 v581
  let v586 : BitVec 32 := Scalar.addi v580 v579
  let v587 : BitVec 32 := Scalar.select v585 v586 v580
  let c128_i32_408 : BitVec 32 := 128#32
  let v592 : BitVec 32 := Scalar.muli v587 c128_i32_408
  let v593 : BitVec 32 := Scalar.addi v591 v592
  let c0_i32_415 : BitVec 32 := 0#32
  ![v593.toNat, 0]
def k0_dev24 (d0 : Dev nD) : Nat :=
  let c0_i32_433 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_432 : BitVec 32 := 16#32
  let v620 : BitVec 32 := Scalar.muli v40 c16_i32_432
  let v621 : BitVec 32 := Scalar.addi c0_i32_433 v620
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_434 : BitVec 32 := 4#32
  let v622 : BitVec 32 := Scalar.muli v43 c4_i32_434
  let v623 : BitVec 32 := Scalar.addi v621 v622
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_435 : BitVec 32 := 1#32
  let v624 : BitVec 32 := Scalar.muli v8 c1_i32_435
  let v625 : BitVec 32 := Scalar.addi v623 v624
  v625.toNat
def k0_dev25 (d0 : Dev nD) : Nat :=
  let c0_i32_474 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_473 : BitVec 32 := 16#32
  let v676 : BitVec 32 := Scalar.muli v24 c16_i32_473
  let v677 : BitVec 32 := Scalar.addi c0_i32_474 v676
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_475 : BitVec 32 := 4#32
  let v678 : BitVec 32 := Scalar.muli v27 c4_i32_475
  let v679 : BitVec 32 := Scalar.addi v677 v678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v680 : BitVec 32 := Scalar.muli v8 c1_i32_476
  let v681 : BitVec 32 := Scalar.addi v679 v680
  v681.toNat
def k0_dev26 (d0 : Dev nD) : Nat :=
  let c0_i32_515 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_514 : BitVec 32 := 16#32
  let v732 : BitVec 32 := Scalar.muli v40 c16_i32_514
  let v733 : BitVec 32 := Scalar.addi c0_i32_515 v732
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_516 : BitVec 32 := 4#32
  let v734 : BitVec 32 := Scalar.muli v43 c4_i32_516
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_517 : BitVec 32 := 1#32
  let v736 : BitVec 32 := Scalar.muli v8 c1_i32_517
  let v737 : BitVec 32 := Scalar.addi v735 v736
  v737.toNat
def k0_dev27 (d0 : Dev nD) : Nat :=
  let c0_i32_555 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_554 : BitVec 32 := 16#32
  let v788 : BitVec 32 := Scalar.muli v24 c16_i32_554
  let v789 : BitVec 32 := Scalar.addi c0_i32_555 v788
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_556 : BitVec 32 := 4#32
  let v790 : BitVec 32 := Scalar.muli v27 c4_i32_556
  let v791 : BitVec 32 := Scalar.addi v789 v790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_557 : BitVec 32 := 1#32
  let v792 : BitVec 32 := Scalar.muli v8 c1_i32_557
  let v793 : BitVec 32 := Scalar.addi v791 v792
  v793.toNat
def k0_dev28 (d0 : Dev nD) : Nat :=
  let c0_i32_596 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_595 : BitVec 32 := 16#32
  let v844 : BitVec 32 := Scalar.muli v40 c16_i32_595
  let v845 : BitVec 32 := Scalar.addi c0_i32_596 v844
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_597 : BitVec 32 := 4#32
  let v846 : BitVec 32 := Scalar.muli v43 c4_i32_597
  let v847 : BitVec 32 := Scalar.addi v845 v846
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_598 : BitVec 32 := 1#32
  let v848 : BitVec 32 := Scalar.muli v8 c1_i32_598
  let v849 : BitVec 32 := Scalar.addi v847 v848
  v849.toNat
def k0_dev29 (d0 : Dev nD) : Nat :=
  let c0_i32_636 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_635 : BitVec 32 := 16#32
  let v900 : BitVec 32 := Scalar.muli v24 c16_i32_635
  let v901 : BitVec 32 := Scalar.addi c0_i32_636 v900
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_637 : BitVec 32 := 4#32
  let v902 : BitVec 32 := Scalar.muli v27 c4_i32_637
  let v903 : BitVec 32 := Scalar.addi v901 v902
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_638 : BitVec 32 := 1#32
  let v904 : BitVec 32 := Scalar.muli v8 c1_i32_638
  let v905 : BitVec 32 := Scalar.addi v903 v904
  v905.toNat
def k0_dev30 (d0 : Dev nD) : Nat :=
  let c0_i32_677 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_676 : BitVec 32 := 16#32
  let v956 : BitVec 32 := Scalar.muli v40 c16_i32_676
  let v957 : BitVec 32 := Scalar.addi c0_i32_677 v956
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_678 : BitVec 32 := 4#32
  let v958 : BitVec 32 := Scalar.muli v43 c4_i32_678
  let v959 : BitVec 32 := Scalar.addi v957 v958
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_679 : BitVec 32 := 1#32
  let v960 : BitVec 32 := Scalar.muli v8 c1_i32_679
  let v961 : BitVec 32 := Scalar.addi v959 v960
  v961.toNat
def k0_dev31 (d0 : Dev nD) : Nat :=
  let c0_i32_718 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_717 : BitVec 32 := 16#32
  let v1012 : BitVec 32 := Scalar.muli v24 c16_i32_717
  let v1013 : BitVec 32 := Scalar.addi c0_i32_718 v1012
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_719 : BitVec 32 := 4#32
  let v1014 : BitVec 32 := Scalar.muli v27 c4_i32_719
  let v1015 : BitVec 32 := Scalar.addi v1013 v1014
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_720 : BitVec 32 := 1#32
  let v1016 : BitVec 32 := Scalar.muli v8 c1_i32_720
  let v1017 : BitVec 32 := Scalar.addi v1015 v1016
  v1017.toNat
def k0_dev32 (d0 : Dev nD) : Nat :=
  let c0_i32_799 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_798 : BitVec 32 := 16#32
  let v1124 : BitVec 32 := Scalar.muli v40 c16_i32_798
  let v1125 : BitVec 32 := Scalar.addi c0_i32_799 v1124
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_800 : BitVec 32 := 4#32
  let v1126 : BitVec 32 := Scalar.muli v43 c4_i32_800
  let v1127 : BitVec 32 := Scalar.addi v1125 v1126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_801 : BitVec 32 := 1#32
  let v1128 : BitVec 32 := Scalar.muli v8 c1_i32_801
  let v1129 : BitVec 32 := Scalar.addi v1127 v1128
  v1129.toNat
def k0_dev33 (d0 : Dev nD) : Nat :=
  let c0_i32_839 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_838 : BitVec 32 := 16#32
  let v1180 : BitVec 32 := Scalar.muli v24 c16_i32_838
  let v1181 : BitVec 32 := Scalar.addi c0_i32_839 v1180
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_840 : BitVec 32 := 4#32
  let v1182 : BitVec 32 := Scalar.muli v27 c4_i32_840
  let v1183 : BitVec 32 := Scalar.addi v1181 v1182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_841 : BitVec 32 := 1#32
  let v1184 : BitVec 32 := Scalar.muli v8 c1_i32_841
  let v1185 : BitVec 32 := Scalar.addi v1183 v1184
  v1185.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_924 : BitVec 32 := 3#32
  let v1304 : BitVec 1 := Scalar.cmpi .slt v8 c3_i32_924
  let v1305 : BitVec 32 := Scalar.extui v1304
  let c0_i32_925 : BitVec 32 := 0#32
  let v1306 : BitVec 1 := Scalar.cmpi .ne v1305 c0_i32_925
  v1306

def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_1061 : BitVec 32 := 1024#32
  let v1493 : BitVec 32 := Scalar.muli v8 c1024_i32_1061
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1062 : BitVec 32 := 128#32
  let v1494 : BitVec 32 := Scalar.muli v11 c128_i32_1062
  let v1495 : BitVec 32 := Scalar.addi v1493 v1494
  let c0_i32_1066 : BitVec 32 := 0#32
  ![v1495.toNat, 0]
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_926 : BitVec 32 := 0#32
  let v1307 : BitVec 1 := Scalar.cmpi .sgt v8 c0_i32_926
  let v1308 : BitVec 32 := Scalar.extui v1307
  let c0_i32_927 : BitVec 32 := 0#32
  let v1309 : BitVec 1 := Scalar.cmpi .ne v1308 c0_i32_927
  v1309

def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_1061 : BitVec 32 := 1024#32
  let v1493 : BitVec 32 := Scalar.muli v8 c1024_i32_1061
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1062 : BitVec 32 := 128#32
  let v1494 : BitVec 32 := Scalar.muli v11 c128_i32_1062
  let v1495 : BitVec 32 := Scalar.addi v1493 v1494
  let c0_i32_1066 : BitVec 32 := 0#32
  ![v1495.toNat, 0]
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let v1310 : BitVec 1 := Scalar.cmpi .slt v50 v8
  let c3_i32_928 : BitVec 32 := 3#32
  let v1311 : BitVec 1 := Scalar.cmpi .slt v8 c3_i32_928
  let v1312 : BitVec 1 := Scalar.andi v1310 v1311
  let v1313 : BitVec 1 := Scalar.cmpi .sgt v50 v8
  let c0_i32_929 : BitVec 32 := 0#32
  let v1314 : BitVec 1 := Scalar.cmpi .sgt v8 c0_i32_929
  let v1315 : BitVec 1 := Scalar.andi v1313 v1314
  let v1316 : BitVec 1 := Scalar.ori v1312 v1315
  let v1317 : BitVec 32 := Scalar.extui v1316
  let c0_i32_930 : BitVec 32 := 0#32
  let v1318 : BitVec 1 := Scalar.cmpi .ne v1317 c0_i32_930
  v1318

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v48 : BitVec 1 := Scalar.cmpi .sgt v8 c0_i32_28
  let c1_i32_29 : BitVec 32 := 1#32
  let v49 : BitVec 32 := Scalar.subi v8 c1_i32_29
  let c1_i32_30 : BitVec 32 := 1#32
  let v50 : BitVec 32 := Scalar.select v48 v49 c1_i32_30
  let c1024_i32_1061 : BitVec 32 := 1024#32
  let v1493 : BitVec 32 := Scalar.muli v50 c1024_i32_1061
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1062 : BitVec 32 := 128#32
  let v1494 : BitVec 32 := Scalar.muli v11 c128_i32_1062
  let v1495 : BitVec 32 := Scalar.addi v1493 v1494
  let c0_i32_1068 : BitVec 32 := 0#32
  ![v1495.toNat, 0]
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let v1363 : BitVec 1 := Scalar.cmpi .slt v54 v8
  let c3_i32_965 : BitVec 32 := 3#32
  let v1364 : BitVec 1 := Scalar.cmpi .slt v8 c3_i32_965
  let v1365 : BitVec 1 := Scalar.andi v1363 v1364
  let v1366 : BitVec 1 := Scalar.cmpi .sgt v54 v8
  let c0_i32_966 : BitVec 32 := 0#32
  let v1367 : BitVec 1 := Scalar.cmpi .sgt v8 c0_i32_966
  let v1368 : BitVec 1 := Scalar.andi v1366 v1367
  let v1369 : BitVec 1 := Scalar.ori v1365 v1368
  let v1370 : BitVec 32 := Scalar.extui v1369
  let c0_i32_967 : BitVec 32 := 0#32
  let v1371 : BitVec 1 := Scalar.cmpi .ne v1370 c0_i32_967
  v1371

def k0_off31 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 1 := Scalar.cmpi .sle v8 c1_i32_31
  let c2_i32_35 : BitVec 32 := 2#32
  let c2_i32_32 : BitVec 32 := 2#32
  let v52 : BitVec 1 := Scalar.cmpi .eq v8 c2_i32_32
  let c3_i32_33 : BitVec 32 := 3#32
  let c1_i32_34 : BitVec 32 := 1#32
  let v53 : BitVec 32 := Scalar.select v52 c3_i32_33 c1_i32_34
  let v54 : BitVec 32 := Scalar.select v51 c2_i32_35 v53
  let c1024_i32_1061 : BitVec 32 := 1024#32
  let v1493 : BitVec 32 := Scalar.muli v54 c1024_i32_1061
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1062 : BitVec 32 := 128#32
  let v1494 : BitVec 32 := Scalar.muli v11 c128_i32_1062
  let v1495 : BitVec 32 := Scalar.addi v1493 v1494
  let c0_i32_1068 : BitVec 32 := 0#32
  ![v1495.toNat, 0]
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let v1416 : BitVec 1 := Scalar.cmpi .slt v56 v8
  let c3_i32_1002 : BitVec 32 := 3#32
  let v1417 : BitVec 1 := Scalar.cmpi .slt v8 c3_i32_1002
  let v1418 : BitVec 1 := Scalar.andi v1416 v1417
  let v1419 : BitVec 1 := Scalar.cmpi .sgt v56 v8
  let c0_i32_1003 : BitVec 32 := 0#32
  let v1420 : BitVec 1 := Scalar.cmpi .sgt v8 c0_i32_1003
  let v1421 : BitVec 1 := Scalar.andi v1419 v1420
  let v1422 : BitVec 1 := Scalar.ori v1418 v1421
  let v1423 : BitVec 32 := Scalar.extui v1422
  let c0_i32_1004 : BitVec 32 := 0#32
  let v1424 : BitVec 1 := Scalar.cmpi .ne v1423 c0_i32_1004
  v1424

def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 1 := Scalar.cmpi .sle v8 c1_i32_36
  let c3_i32_37 : BitVec 32 := 3#32
  let c0_i32_38 : BitVec 32 := 0#32
  let v56 : BitVec 32 := Scalar.select v55 c3_i32_37 c0_i32_38
  let c1024_i32_1061 : BitVec 32 := 1024#32
  let v1493 : BitVec 32 := Scalar.muli v56 c1024_i32_1061
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32_1062 : BitVec 32 := 128#32
  let v1494 : BitVec 32 := Scalar.muli v11 c128_i32_1062
  let v1495 : BitVec 32 := Scalar.addi v1493 v1494
  let c0_i32_1068 : BitVec 32 := 0#32
  ![v1495.toNat, 0]
def k0_dev34 (d0 : Dev nD) : Nat :=
  let c0_i32_1041 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .slt v22 c4_i32_8
  let c0_i32_9 : BitVec 32 := 0#32
  let c1_i32_10 : BitVec 32 := 1#32
  let v24 : BitVec 32 := Scalar.select v23 c0_i32_9 c1_i32_10
  let c16_i32_1040 : BitVec 32 := 16#32
  let v1469 : BitVec 32 := Scalar.muli v24 c16_i32_1040
  let v1470 : BitVec 32 := Scalar.addi c0_i32_1041 v1469
  let c4_i32_11 : BitVec 32 := 4#32
  let v25 : BitVec 1 := Scalar.cmpi .slt v22 c4_i32_11
  let c7_i32_12 : BitVec 32 := 7#32
  let v26 : BitVec 32 := Scalar.subi c7_i32_12 v22
  let v27 : BitVec 32 := Scalar.select v25 v22 v26
  let c4_i32_1042 : BitVec 32 := 4#32
  let v1471 : BitVec 32 := Scalar.muli v27 c4_i32_1042
  let v1472 : BitVec 32 := Scalar.addi v1470 v1471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1043 : BitVec 32 := 1#32
  let v1473 : BitVec 32 := Scalar.muli v8 c1_i32_1043
  let v1474 : BitVec 32 := Scalar.addi v1472 v1473
  v1474.toNat
def k0_dev35 (d0 : Dev nD) : Nat :=
  let c0_i32_1046 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v28 : BitVec 32 := Scalar.subi v11 c1_i32_13
  let c8_i32_14 : BitVec 32 := 8#32
  let c0_i32_15 : BitVec 32 := 0#32
  let v29 : BitVec 1 := Scalar.cmpi .eq c8_i32_14 c0_i32_15
  let c1_i32_16 : BitVec 32 := 1#32
  let v30 : BitVec 32 := Scalar.select v29 c1_i32_16 c8_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_20 : BitVec 32 := 4#32
  let v39 : BitVec 1 := Scalar.cmpi .slt v38 c4_i32_20
  let c0_i32_21 : BitVec 32 := 0#32
  let c1_i32_22 : BitVec 32 := 1#32
  let v40 : BitVec 32 := Scalar.select v39 c0_i32_21 c1_i32_22
  let c16_i32_1045 : BitVec 32 := 16#32
  let v1475 : BitVec 32 := Scalar.muli v40 c16_i32_1045
  let v1476 : BitVec 32 := Scalar.addi c0_i32_1046 v1475
  let c4_i32_23 : BitVec 32 := 4#32
  let v41 : BitVec 1 := Scalar.cmpi .slt v38 c4_i32_23
  let c7_i32_24 : BitVec 32 := 7#32
  let v42 : BitVec 32 := Scalar.subi c7_i32_24 v38
  let v43 : BitVec 32 := Scalar.select v41 v38 v42
  let c4_i32_1047 : BitVec 32 := 4#32
  let v1477 : BitVec 32 := Scalar.muli v43 c4_i32_1047
  let v1478 : BitVec 32 := Scalar.addi v1476 v1477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1048 : BitVec 32 := 1#32
  let v1479 : BitVec 32 := Scalar.muli v8 c1_i32_1048
  let v1480 : BitVec 32 := Scalar.addi v1478 v1479
  v1480.toNat
def k0_dev36 (d0 : Dev nD) : Nat :=
  let c0_i32_1051 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1050 : BitVec 32 := 16#32
  let v1481 : BitVec 32 := Scalar.muli v2 c16_i32_1050
  let v1482 : BitVec 32 := Scalar.addi c0_i32_1051 v1481
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1052 : BitVec 32 := 4#32
  let v1483 : BitVec 32 := Scalar.muli v5 c4_i32_1052
  let v1484 : BitVec 32 := Scalar.addi v1482 v1483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v57 : BitVec 32 := Scalar.addi v8 c1_i32_39
  let c4_i32_40 : BitVec 32 := 4#32
  let c0_i32_41 : BitVec 32 := 0#32
  let v58 : BitVec 1 := Scalar.cmpi .eq c4_i32_40 c0_i32_41
  let c1_i32_42 : BitVec 32 := 1#32
  let v59 : BitVec 32 := Scalar.select v58 c1_i32_42 c4_i32_40
  let v60 : BitVec 32 := Scalar.remsi v57 v59
  let c0_i32_44 : BitVec 32 := 0#32
  let v62 : BitVec 1 := Scalar.cmpi .slt v60 c0_i32_44
  let c0_i32_45 : BitVec 32 := 0#32
  let v63 : BitVec 1 := Scalar.cmpi .slt v59 c0_i32_45
  let v64 : BitVec 1 := Scalar.xori v62 v63
  let c0_i32_43 : BitVec 32 := 0#32
  let v61 : BitVec 1 := Scalar.cmpi .ne v60 c0_i32_43
  let v65 : BitVec 1 := Scalar.andi v64 v61
  let v66 : BitVec 32 := Scalar.addi v60 v59
  let v67 : BitVec 32 := Scalar.select v65 v66 v60
  let c1_i32_1053 : BitVec 32 := 1#32
  let v1485 : BitVec 32 := Scalar.muli v67 c1_i32_1053
  let v1486 : BitVec 32 := Scalar.addi v1484 v1485
  v1486.toNat
def k0_dev37 (d0 : Dev nD) : Nat :=
  let c0_i32_1056 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1055 : BitVec 32 := 16#32
  let v1487 : BitVec 32 := Scalar.muli v2 c16_i32_1055
  let v1488 : BitVec 32 := Scalar.addi c0_i32_1056 v1487
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1057 : BitVec 32 := 4#32
  let v1489 : BitVec 32 := Scalar.muli v5 c4_i32_1057
  let v1490 : BitVec 32 := Scalar.addi v1488 v1489
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v68 : BitVec 32 := Scalar.subi v8 c1_i32_46
  let c4_i32_47 : BitVec 32 := 4#32
  let c0_i32_48 : BitVec 32 := 0#32
  let v69 : BitVec 1 := Scalar.cmpi .eq c4_i32_47 c0_i32_48
  let c1_i32_49 : BitVec 32 := 1#32
  let v70 : BitVec 32 := Scalar.select v69 c1_i32_49 c4_i32_47
  let v71 : BitVec 32 := Scalar.remsi v68 v70
  let c0_i32_51 : BitVec 32 := 0#32
  let v73 : BitVec 1 := Scalar.cmpi .slt v71 c0_i32_51
  let c0_i32_52 : BitVec 32 := 0#32
  let v74 : BitVec 1 := Scalar.cmpi .slt v70 c0_i32_52
  let v75 : BitVec 1 := Scalar.xori v73 v74
  let c0_i32_50 : BitVec 32 := 0#32
  let v72 : BitVec 1 := Scalar.cmpi .ne v71 c0_i32_50
  let v76 : BitVec 1 := Scalar.andi v75 v72
  let v77 : BitVec 32 := Scalar.addi v71 v70
  let v78 : BitVec 32 := Scalar.select v76 v77 v71
  let c1_i32_1058 : BitVec 32 := 1#32
  let v1491 : BitVec 32 := Scalar.muli v78 c1_i32_1058
  let v1492 : BitVec 32 := Scalar.addi v1490 v1491
  v1492.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
  Where each device of the 2×4×4 mesh stands in the all-gather's two movements — the ring of eight
  over (x, y), and the line of four along z — and the offsets, devices and conditions the printed
  kernel computes, in those terms.
-/
module
public import proofs.«01_k».proof.Proof.Gen.KernelIdeal
@[expose] public section
set_option maxRecDepth 20000
namespace Cert.KernelIdeal.Coll
open Idealize.ShloMosaic Cert.KernelIdeal Cert.KernelIdeal.Gen

/-- The device's coordinate along the line. -/
def zc (c : Dev nD) : Fin 4 := ⟨c.val % 4, Nat.mod_lt _ (by decide)⟩

/-- The device's place on its ring of eight: up one side of the (x, y) plane and down the other. -/
def rc (c : Dev nD) : Fin 8 :=
  ⟨if c.val / 16 = 0 then c.val / 4 % 4 else 7 - c.val / 4 % 4, by split <;> omega⟩

/-- The device at a place of a ring and a coordinate of the line. -/
def mk (r : Fin 8) (z : Fin 4) : Dev nD :=
  ⟨if r.val < 4 then 4 * r.val + z.val else 16 + 4 * (7 - r.val) + z.val, by
    show _ < 32
    split <;> omega⟩

/-- The ring neighbour: clockwise (`true`) or counter-clockwise. -/
def nx (w : Bool) (c : Dev nD) : Dev nD := mk (if w then rc c + 1 else rc c - 1) (zc c)

/-- The line neighbour, cyclically: one up (`true`) or one down. -/
def zn (u : Bool) (c : Dev nD) : Dev nD := mk (rc c) (if u then zc c + 1 else zc c - 1)

/-- The chunk a device at coordinate `z` receives `d`-th along the line. -/
def chf (z : Fin 4) (d : Fin 3) : Fin 4 := (![![1, 2, 3], ![0, 2, 3], ![1, 3, 0], ![2, 1, 0]] : Fin 4 → Fin 3 → Fin 4) z d

/-- When the device at coordinate `z` receives chunk `ch` along the line (meaningless at its own). -/
def di (z ch : Fin 4) : Fin 3 := (![![0, 0, 1, 2], ![0, 0, 1, 2], ![2, 0, 0, 1], ![2, 1, 0, 0]] : Fin 4 → Fin 4 → Fin 3) z ch

/-- How many steps the `d`-th chunk's stripes take round the ring in each direction. -/
def hops (w : Bool) (d : Fin 3) : ℕ := if (w = true ↔ d = 1) then 3 else 4

/-- The stripe a device at ring place `r` sends at step `j`: its own at step 0, then what came in. -/
def sh (w : Bool) (r : Fin 8) (j : ℕ) : Fin 8 := if w then r - Fin.ofNat 8 j else r + Fin.ofNat 8 j

/-- Where the stripe `o` of chunk `ch` lies in the gathered array. -/
def so (ch : Fin 4) (o : Fin 8) : Fin 2 → ℕ := ![1024 * ch.val + 128 * o.val, 0]

/-- Whether the device sends its own stripe that way along the line. -/
def zdA (u : Bool) (c : Dev nD) : Bool := if u then decide (zc c < 3) else decide (0 < zc c)

/-- Whether the device forwards the `d`-th chunk's stripe that way along the line. -/
def zfA (u : Bool) (d : Fin 3) (c : Dev nD) : Bool :=
  if u then decide (zc c < 3 ∧ chf (zc c) d < zc c) else decide (0 < zc c ∧ zc c < chf (zc c) d)

/-- The chunk received when another chunk is due is that chunk. -/
theorem chf_di : ∀ z ch : Fin 4, z ≠ ch → chf z (di z ch) = ch := by decide
/-- The `d`-th chunk received is due `d`-th. -/
theorem di_chf : ∀ (z : Fin 4) (d : Fin 3), di z (chf z d) = d := by decide
/-- No device receives its own chunk. -/
theorem chf_ne : ∀ (z : Fin 4) (d : Fin 3), chf z d ≠ z := by decide
/-- Ring neighbours stand at the same coordinate of the line. -/
theorem zc_nx : ∀ (w : Bool) (c : Dev nD), zc (nx w c) = zc c := by decide +kernel
/-- Line neighbours stand at the same place of their rings. -/
theorem rc_zn : ∀ (u : Bool) (c : Dev nD), rc (zn u c) = rc c := by decide +kernel
/-- Going round the ring and back again is going nowhere. -/
theorem nx_nx : ∀ (w : Bool) (c : Dev nD), nx (!w) (nx w c) = c := by decide +kernel
/-- Going along the line and back again is going nowhere. -/
theorem zn_zn : ∀ (u : Bool) (c : Dev nD), zn (!u) (zn u c) = c := by decide +kernel
/-- A device is the one at its ring place and its coordinate. -/
theorem mk_rc_zc : ∀ c : Dev nD, mk (rc c) (zc c) = c := by decide +kernel
/-- The ring place of the device at a ring place. -/
theorem rc_mk : ∀ r z, rc (mk r z) = r := by decide +kernel
/-- The coordinate of the device at a coordinate. -/
theorem zc_mk : ∀ r z, zc (mk r z) = z := by decide +kernel
/-- Every chunk takes a step round the ring in each direction. -/
theorem hops_pos : ∀ w d, 0 < hops w d := by decide
/-- No chunk takes more than four. -/
theorem hops_le : ∀ w d, hops w d ≤ 4 := by decide
/-- What a device sends at step `j` is what its neighbour then holds as its step `j + 1`. -/
theorem sh_nx : ∀ (w : Bool) (c : Dev nD) (j : Fin 4), sh w (rc (nx w c)) (j.val + 1) = sh w (rc c) j.val := by decide +kernel
/-- The stripe sent at step 0 is the device's own. -/
theorem sh_zero : ∀ (w : Bool) (r : Fin 8), sh w r 0 = r := by decide

/-! The neighbours the kernel names -/

/-- The device named there is the clockwise ring neighbour. -/
theorem dev1_eq : ∀ c : Dev nD, (⟨k0_dev1 c, k0_dev1_lt c⟩ : Dev nD) = nx true c := by decide +kernel
/-- The device named there is the counter-clockwise ring neighbour. -/
theorem dev2_eq : ∀ c : Dev nD, (⟨k0_dev2 c, k0_dev2_lt c⟩ : Dev nD) = nx false c := by decide +kernel
/-- The device named there is the line neighbour above. -/
theorem dev3_eq : ∀ c : Dev nD, (⟨k0_dev3 c, k0_dev3_lt c⟩ : Dev nD) = zn true c := by decide +kernel
/-- The device named there is the line neighbour below. -/
theorem dev4_eq : ∀ c : Dev nD, (⟨k0_dev4 c, k0_dev4_lt c⟩ : Dev nD) = zn false c := by decide +kernel
/-- The device named there is the clockwise ring neighbour. -/
theorem dev34_eq : ∀ c : Dev nD, (⟨k0_dev34 c, k0_dev34_lt c⟩ : Dev nD) = nx true c := by decide +kernel
/-- The device named there is the counter-clockwise ring neighbour. -/
theorem dev35_eq : ∀ c : Dev nD, (⟨k0_dev35 c, k0_dev35_lt c⟩ : Dev nD) = nx false c := by decide +kernel
/-- The device named there is the line neighbour above. -/
theorem dev36_eq : ∀ c : Dev nD, (⟨k0_dev36 c, k0_dev36_lt c⟩ : Dev nD) = zn true c := by decide +kernel
/-- The device named there is the line neighbour below. -/
theorem dev37_eq : ∀ c : Dev nD, (⟨k0_dev37 c, k0_dev37_lt c⟩ : Dev nD) = zn false c := by decide +kernel
/-- The device named there is the line neighbour above. -/
theorem dev5_eq : ∀ (c : Dev nD) h, (⟨k0_dev5 c, k0_dev5_lt c h⟩ : Dev nD) = zn true c := by decide +kernel
/-- The device named there is the line neighbour below. -/
theorem dev6_eq : ∀ (c : Dev nD) h, (⟨k0_dev6 c, k0_dev6_lt c h⟩ : Dev nD) = zn false c := by decide +kernel
/-- The device named there is the line neighbour above. -/
theorem dev7_eq : ∀ (c : Dev nD) h, (⟨k0_dev7 c, k0_dev7_lt c h⟩ : Dev nD) = zn true c := by decide +kernel
/-- The device named there is the line neighbour below. -/
theorem dev8_eq : ∀ (c : Dev nD) h, (⟨k0_dev8 c, k0_dev8_lt c h⟩ : Dev nD) = zn false c := by decide +kernel
/-- The device named there is the line neighbour above. -/
theorem dev11_eq : ∀ (c : Dev nD) h, (⟨k0_dev11 c, k0_dev11_lt c h⟩ : Dev nD) = zn true c := by decide +kernel
/-- The device named there is the line neighbour below. -/
theorem dev12_eq : ∀ (c : Dev nD) h, (⟨k0_dev12 c, k0_dev12_lt c h⟩ : Dev nD) = zn false c := by decide +kernel
/-- The device named there is the line neighbour above. -/
theorem dev15_eq : ∀ (c : Dev nD) h, (⟨k0_dev15 c, k0_dev15_lt c h⟩ : Dev nD) = zn true c := by decide +kernel
/-- The device named there is the line neighbour below. -/
theorem dev16_eq : ∀ (c : Dev nD) h, (⟨k0_dev16 c, k0_dev16_lt c h⟩ : Dev nD) = zn false c := by decide +kernel
/-- The device named there is the clockwise ring neighbour. -/
theorem dev9_eq : ∀ c : Dev nD, (⟨k0_dev9 c, k0_dev9_lt c⟩ : Dev nD) = nx true c := by decide +kernel
/-- The device named there is the counter-clockwise ring neighbour. -/
theorem dev10_eq : ∀ c : Dev nD, (⟨k0_dev10 c, k0_dev10_lt c⟩ : Dev nD) = nx false c := by decide +kernel
/-- The device named there is the clockwise ring neighbour. -/
theorem dev13_eq : ∀ c : Dev nD, (⟨k0_dev13 c, k0_dev13_lt c⟩ : Dev nD) = nx true c := by decide +kernel
/-- The device named there is the counter-clockwise ring neighbour. -/
theorem dev14_eq : ∀ c : Dev nD, (⟨k0_dev14 c, k0_dev14_lt c⟩ : Dev nD) = nx false c := by decide +kernel
/-- The device named there is the clockwise ring neighbour. -/
theorem dev17_eq : ∀ c : Dev nD, (⟨k0_dev17 c, k0_dev17_lt c⟩ : Dev nD) = nx true c := by decide +kernel
/-- The device named there is the counter-clockwise ring neighbour. -/
theorem dev18_eq : ∀ c : Dev nD, (⟨k0_dev18 c, k0_dev18_lt c⟩ : Dev nD) = nx false c := by decide +kernel
/-- The device named there is the clockwise ring neighbour. -/
theorem dev19_eq : ∀ c : Dev nD, (⟨k0_dev19 c, k0_dev19_lt c⟩ : Dev nD) = nx true c := by decide +kernel
/-- The device named there is the counter-clockwise ring neighbour. -/
theorem dev20_eq : ∀ c : Dev nD, (⟨k0_dev20 c, k0_dev20_lt c⟩ : Dev nD) = nx false c := by decide +kernel
/-- The device named there is the clockwise ring neighbour. -/
theorem dev21_eq : ∀ c : Dev nD, (⟨k0_dev21 c, k0_dev21_lt c⟩ : Dev nD) = nx true c := by decide +kernel
/-- The device named there is the counter-clockwise ring neighbour. -/
theorem dev22_eq : ∀ c : Dev nD, (⟨k0_dev22 c, k0_dev22_lt c⟩ : Dev nD) = nx false c := by decide +kernel
/-- The device named there is the clockwise ring neighbour. -/
theorem dev23_eq : ∀ c : Dev nD, (⟨k0_dev23 c, k0_dev23_lt c⟩ : Dev nD) = nx true c := by decide +kernel
/-- The device named there is the counter-clockwise ring neighbour. -/
theorem dev24_eq : ∀ c : Dev nD, (⟨k0_dev24 c, k0_dev24_lt c⟩ : Dev nD) = nx false c := by decide +kernel
/-- The device named there is the clockwise ring neighbour. -/
theorem dev25_eq : ∀ c : Dev nD, (⟨k0_dev25 c, k0_dev25_lt c⟩ : Dev nD) = nx true c := by decide +kernel
/-- The device named there is the counter-clockwise ring neighbour. -/
theorem dev26_eq : ∀ c : Dev nD, (⟨k0_dev26 c, k0_dev26_lt c⟩ : Dev nD) = nx false c := by decide +kernel
/-- The device named there is the clockwise ring neighbour. -/
theorem dev27_eq : ∀ c : Dev nD, (⟨k0_dev27 c, k0_dev27_lt c⟩ : Dev nD) = nx true c := by decide +kernel
/-- The device named there is the counter-clockwise ring neighbour. -/
theorem dev28_eq : ∀ c : Dev nD, (⟨k0_dev28 c, k0_dev28_lt c⟩ : Dev nD) = nx false c := by decide +kernel
/-- The device named there is the clockwise ring neighbour. -/
theorem dev29_eq : ∀ c : Dev nD, (⟨k0_dev29 c, k0_dev29_lt c⟩ : Dev nD) = nx true c := by decide +kernel
/-- The device named there is the counter-clockwise ring neighbour. -/
theorem dev30_eq : ∀ c : Dev nD, (⟨k0_dev30 c, k0_dev30_lt c⟩ : Dev nD) = nx false c := by decide +kernel
/-- The device named there is the clockwise ring neighbour. -/
theorem dev31_eq : ∀ c : Dev nD, (⟨k0_dev31 c, k0_dev31_lt c⟩ : Dev nD) = nx true c := by decide +kernel
/-- The device named there is the counter-clockwise ring neighbour. -/
theorem dev32_eq : ∀ c : Dev nD, (⟨k0_dev32 c, k0_dev32_lt c⟩ : Dev nD) = nx false c := by decide +kernel
/-- The device named there is the clockwise ring neighbour. -/
theorem dev33_eq : ∀ c : Dev nD, (⟨k0_dev33 c, k0_dev33_lt c⟩ : Dev nD) = nx true c := by decide +kernel

/-! The conditions -/

/-- That condition is whether the device sends its own stripe up along the line. -/
theorem cond1_eq : ∀ c : Dev nD, k0_cond1 c = 1#1 ↔ zdA true c = true := by decide +kernel
/-- That condition is whether the device sends its own stripe down along the line. -/
theorem cond2_eq : ∀ c : Dev nD, k0_cond2 c = 1#1 ↔ zdA false c = true := by decide +kernel
/-- That condition is whether the device forwards that chunk's stripe up along the line. -/
theorem cond3_eq : ∀ c : Dev nD, k0_cond3 c = 1#1 ↔ zfA true 0 c = true := by decide +kernel
/-- That condition is whether the device forwards that chunk's stripe down along the line. -/
theorem cond4_eq : ∀ c : Dev nD, k0_cond4 c = 1#1 ↔ zfA false 0 c = true := by decide +kernel
/-- That condition is whether the device forwards that chunk's stripe up along the line. -/
theorem cond5_eq : ∀ c : Dev nD, k0_cond5 c = 1#1 ↔ zfA true 1 c = true := by decide +kernel
/-- That condition is whether the device forwards that chunk's stripe down along the line. -/
theorem cond6_eq : ∀ c : Dev nD, k0_cond6 c = 1#1 ↔ zfA false 1 c = true := by decide +kernel
/-- That condition is whether the device forwards that chunk's stripe up along the line. -/
theorem cond7_eq : ∀ c : Dev nD, k0_cond7 c = 1#1 ↔ zfA true 2 c = true := by decide +kernel
/-- That condition is whether the device forwards that chunk's stripe down along the line. -/
theorem cond8_eq : ∀ c : Dev nD, k0_cond8 c = 1#1 ↔ zfA false 2 c = true := by decide +kernel
/-- That condition is whether the device sends its own stripe up along the line. -/
theorem cond9_eq : ∀ c : Dev nD, k0_cond9 c = 1#1 ↔ zdA true c = true := by decide +kernel
/-- That condition is whether the device sends its own stripe down along the line. -/
theorem cond10_eq : ∀ c : Dev nD, k0_cond10 c = 1#1 ↔ zdA false c = true := by decide +kernel
/-- That condition is whether the device forwards that chunk's stripe either way along the line. -/
theorem cond11_eq : ∀ c : Dev nD, k0_cond11 c = 1#1 ↔ (zfA true 0 c || zfA false 0 c) = true := by decide +kernel
/-- That condition is whether the device forwards that chunk's stripe either way along the line. -/
theorem cond12_eq : ∀ c : Dev nD, k0_cond12 c = 1#1 ↔ (zfA true 1 c || zfA false 1 c) = true := by decide +kernel
/-- That condition is whether the device forwards that chunk's stripe either way along the line. -/
theorem cond13_eq : ∀ c : Dev nD, k0_cond13 c = 1#1 ↔ (zfA true 2 c || zfA false 2 c) = true := by decide +kernel

/-! The offsets -/

/-- That offset is of the device's own stripe in its block. -/
theorem off1_eq : ∀ c : Dev nD, k0_off1 c = ![128 * (rc c).val, 0] := by decide +kernel
/-- That offset is of the device's own stripe of the chunk. -/
theorem off3_eq : ∀ c : Dev nD, k0_off3 c = so (zc c) (rc c) := by decide +kernel
/-- That offset is of the device's own stripe of the chunk. -/
theorem off5_eq : ∀ c : Dev nD, k0_off5 c = so (zc c) (rc c) := by decide +kernel
/-- That offset is of the device's own chunk. -/
theorem off6_eq : ∀ c : Dev nD, k0_off6 c = ![1024 * (zc c).val, 0] := by decide +kernel
/-- That offset is of the receive cell at which the receiver expects the chunk. -/
theorem off2_eq : ∀ c : Dev nD, k0_cond1 c = 1#1 → k0_off2 c = ![(di (zc (zn true c)) (zc c)).val] := by decide +kernel
/-- That offset is of the receive cell at which the receiver expects the chunk. -/
theorem off4_eq : ∀ c : Dev nD, k0_cond2 c = 1#1 → k0_off4 c = ![(di (zc (zn false c)) (zc c)).val] := by decide +kernel
/-- That offset is of the device's own stripe of the chunk. -/
theorem off7_eq : ∀ c : Dev nD, k0_off7 c = so (chf (zc c) 0) (rc c) := by decide +kernel
/-- That offset is of the device's own stripe of the chunk. -/
theorem off12_eq : ∀ c : Dev nD, k0_off12 c = so (chf (zc c) 1) (rc c) := by decide +kernel
/-- That offset is of the device's own stripe of the chunk. -/
theorem off17_eq : ∀ c : Dev nD, k0_off17 c = so (chf (zc c) 2) (rc c) := by decide +kernel
/-- That offset is of the receive cell at which the receiver expects the chunk. -/
theorem off8_eq : ∀ c : Dev nD, k0_cond3 c = 1#1 → k0_off8 c = ![(di (zc (zn true c)) (chf (zc c) 0)).val] := by decide +kernel
/-- That offset is of the device's own stripe of the chunk. -/
theorem off9_eq : ∀ c : Dev nD, k0_cond3 c = 1#1 → k0_off9 c = so (chf (zc c) 0) (rc c) := by decide +kernel
/-- That offset is of the receive cell at which the receiver expects the chunk. -/
theorem off10_eq : ∀ c : Dev nD, k0_cond4 c = 1#1 → k0_off10 c = ![(di (zc (zn false c)) (chf (zc c) 0)).val] := by decide +kernel
/-- That offset is of the device's own stripe of the chunk. -/
theorem off11_eq : ∀ c : Dev nD, k0_cond4 c = 1#1 → k0_off11 c = so (chf (zc c) 0) (rc c) := by decide +kernel
/-- That offset is of the receive cell at which the receiver expects the chunk. -/
theorem off13_eq : ∀ c : Dev nD, k0_cond5 c = 1#1 → k0_off13 c = ![(di (zc (zn true c)) (chf (zc c) 1)).val] := by decide +kernel
/-- That offset is of the device's own stripe of the chunk. -/
theorem off14_eq : ∀ c : Dev nD, k0_cond5 c = 1#1 → k0_off14 c = so (chf (zc c) 1) (rc c) := by decide +kernel
/-- That offset is of the receive cell at which the receiver expects the chunk. -/
theorem off15_eq : ∀ c : Dev nD, k0_cond6 c = 1#1 → k0_off15 c = ![(di (zc (zn false c)) (chf (zc c) 1)).val] := by decide +kernel
/-- That offset is of the device's own stripe of the chunk. -/
theorem off16_eq : ∀ c : Dev nD, k0_cond6 c = 1#1 → k0_off16 c = so (chf (zc c) 1) (rc c) := by decide +kernel
/-- That offset is of the receive cell at which the receiver expects the chunk. -/
theorem off18_eq : ∀ c : Dev nD, k0_cond7 c = 1#1 → k0_off18 c = ![(di (zc (zn true c)) (chf (zc c) 2)).val] := by decide +kernel
/-- That offset is of the device's own stripe of the chunk. -/
theorem off19_eq : ∀ c : Dev nD, k0_cond7 c = 1#1 → k0_off19 c = so (chf (zc c) 2) (rc c) := by decide +kernel
/-- That offset is of the receive cell at which the receiver expects the chunk. -/
theorem off20_eq : ∀ c : Dev nD, k0_cond8 c = 1#1 → k0_off20 c = ![(di (zc (zn false c)) (chf (zc c) 2)).val] := by decide +kernel
/-- That offset is of the device's own stripe of the chunk. -/
theorem off21_eq : ∀ c : Dev nD, k0_cond8 c = 1#1 → k0_off21 c = so (chf (zc c) 2) (rc c) := by decide +kernel
/-- That offset is of the stripe that comes in at a ring step. -/
theorem off22_eq : ∀ (c : Dev nD) (j : Fin 4), k0_off22 c (BitVec.ofNat 32 j.val) = so (chf (zc c) 0) (sh true (rc c) (j.val + 1)) := by decide +kernel
/-- That offset is of the stripe that comes in at a ring step. -/
theorem off23_eq : ∀ (c : Dev nD) (j : Fin 3), k0_off23 c (BitVec.ofNat 32 j.val) = so (chf (zc c) 0) (sh false (rc c) (j.val + 1)) := by decide +kernel
/-- That offset is of the stripe that comes in at a ring step. -/
theorem off24_eq : ∀ (c : Dev nD) (j : Fin 3), k0_off24 c (BitVec.ofNat 32 j.val) = so (chf (zc c) 1) (sh true (rc c) (j.val + 1)) := by decide +kernel
/-- That offset is of the stripe that comes in at a ring step. -/
theorem off25_eq : ∀ (c : Dev nD) (j : Fin 4), k0_off25 c (BitVec.ofNat 32 j.val) = so (chf (zc c) 1) (sh false (rc c) (j.val + 1)) := by decide +kernel
/-- That offset is of the stripe that comes in at a ring step. -/
theorem off26_eq : ∀ (c : Dev nD) (j : Fin 4), k0_off26 c (BitVec.ofNat 32 j.val) = so (chf (zc c) 2) (sh true (rc c) (j.val + 1)) := by decide +kernel
/-- That offset is of the stripe that comes in at a ring step. -/
theorem off27_eq : ∀ (c : Dev nD) (j : Fin 3), k0_off27 c (BitVec.ofNat 32 j.val) = so (chf (zc c) 2) (sh false (rc c) (j.val + 1)) := by decide +kernel

/-! ## The semaphores the devices meet at -/

/-- A device's semaphores: the barrier, the exit count, the line's send and receive cells, the rings' send cells (reused step
    after step) and receive cells (one a step). -/
inductive Ce
  | bar
  | ex
  | zs (i : Fin 5)
  | zr (d : Fin 3)
  | rs (w : Bool) (d : Fin 3)
  | rr (w : Bool) (d : Fin 3) (j : Fin 4)
  deriving DecidableEq

/-- The pairs (direction, chunk), the triples with the step, as lists. -/
def wdL : List (Bool × Fin 3) := [(true, 0), (true, 1), (true, 2), (false, 0), (false, 1), (false, 2)]
def wdjL : List (Bool × Fin 3 × Fin 4) := wdL.flatMap fun x => [(x.1, x.2, 0), (x.1, x.2, 1), (x.1, x.2, 2), (x.1, x.2, 3)]

def Ce.all : List Ce :=
  Ce.bar :: Ce.ex :: ([0, 1, 2, 3, 4] : List (Fin 5)).map Ce.zs ++ ([0, 1, 2] : List (Fin 3)).map Ce.zr
    ++ wdL.map (fun x => Ce.rs x.1 x.2) ++ wdjL.map (fun x => Ce.rr x.1 x.2.1 x.2.2)

/-- The cells are listed without repetition. -/
theorem Ce.nodup_all : Ce.all.Nodup := by decide
/-- Every cell is listed. -/
theorem Ce.mem_all (k : Ce) : k ∈ Ce.all := by
  cases k with
  | bar => decide
  | ex => decide
  | zs i => revert i; decide
  | zr d => revert d; decide
  | rs w d => revert w d; decide
  | rr w d j => revert w d j; decide

instance : Fintype Ce := ⟨⟨(Ce.all : Multiset Ce), Ce.nodup_all⟩, Ce.mem_all⟩

/-- A DMA semaphore by its number. -/
abbrev dsem (n : ℕ) (h : n < 40) : DmaSem sig := (⟨n, h⟩ : Fin 40)

/-- The semaphore of each cell, as the kernel's operands lie in the pools. -/
def csem : Ce → SemLoc sig
  | .bar => .reg (1 : Fin 2)
  | .ex => .reg (0 : Fin 2)
  | .zs i => .dma (dsem (2 + i.val) (by omega))
  | .zr d => .dma (dsem (7 + d.val) (by omega))
  | .rs true d => .dma (dsem (10 + d.val) (by omega))
  | .rr true d j => .dma (dsem (13 + 4 * d.val + j.val) (by omega))
  | .rs false d => .dma (dsem (25 + d.val) (by omega))
  | .rr false d j => .dma (dsem (28 + 4 * d.val + j.val) (by omega))

/-- Which cell a semaphore is, if any (the two staging ones are none). -/
def decode (s : SemLoc sig) : Option Ce := Ce.all.find? fun k => csem k = s

/-- A cell is found again from its semaphore. -/
theorem decode_csem : ∀ k, decode (csem k) = some k := by decide +kernel
/-- Different cells have different semaphores. -/
theorem csem_inj : Function.Injective csem := fun a b h => by
  have := congrArg decode h; rw [decode_csem, decode_csem] at this; exact Option.some.inj this

/-! ## What a device pays its peers -/

/-- Whether the device makes the line send `q` — its own stripe (`none`) or the `d`-th chunk's forwarded — that way. -/
def zact (u : Bool) (q : Option (Fin 3)) (c : Dev nD) : Bool := match q with | none => zdA u c | some d => zfA u d c
/-- The chunk the line send `q` carries. -/
def zch (c : Dev nD) (q : Option (Fin 3)) : Fin 4 := match q with | none => zc c | some d => chf (zc c) d
/-- Which of the receiver's chunks that is. -/
def zto (u : Bool) (q : Option (Fin 3)) (c : Dev nD) : Fin 3 := di (zc (zn u c)) (zch c q)
/-- The send cell the line send `q` completes on. -/
def zi (u : Bool) (q : Option (Fin 3)) : Fin 5 := match q with | none => if u then 0 else 1 | some d => ⟨2 + d.val, by omega⟩

/-- The payments: the four barrier signals, the line sends, the ring sends, the four exit signals. -/
inductive P
  | bar (k : Fin 4)
  | z (u : Bool) (q : Option (Fin 3))
  | rg (w : Bool) (d : Fin 3) (j : Fin 4)
  | ex (k : Fin 4)
  deriving DecidableEq

/-- The neighbour a device's `k`-th signal goes to. -/
def nb (k : Fin 4) (c : Dev nD) : Dev nD := (![nx true c, nx false c, zn true c, zn false c] : Fin 4 → Dev nD) k
/-- And the neighbour its `k`-th signal comes from. -/
def nbi (k : Fin 4) (c : Dev nD) : Dev nD := (![nx false c, nx true c, zn false c, zn true c] : Fin 4 → Dev nD) k
/-- The `k`-th neighbour of the device whose signal comes `k`-th is the device. -/
theorem nb_nbi : ∀ k c, nb k (nbi k c) = c := by decide +kernel
/-- The `k`-th signal of the `k`-th neighbour comes from the device. -/
theorem nbi_nb : ∀ k c, nbi k (nb k c) = c := by decide +kernel

def pact (c : Dev nD) : P → Bool
  | .z u q => zact u q c
  | .rg w d j => decide (j.val < hops w d)
  | _ => true
/-- The cell a payment goes to. -/
def ptgt (c : Dev nD) : P → Dev nD × Ce
  | .bar k => (nb k c, .bar)
  | .z u q => (zn u c, .zr (zto u q c))
  | .rg w d j => (nx w c, .rr w d j)
  | .ex k => (nb k c, .ex)
/-- In the program's order. -/
def pl : List P :=
  [.bar 0, .bar 1, .bar 2, .bar 3, .z true none, .z false none,
   .z true (some 0), .z false (some 0), .rg true 0 0, .rg false 0 0,
   .z true (some 1), .z false (some 1), .rg true 1 0, .rg false 1 0,
   .z true (some 2), .z false (some 2), .rg true 2 0, .rg false 2 0,
   .rg true 0 1, .rg false 0 1, .rg true 1 1, .rg false 1 1, .rg true 2 1, .rg false 2 1,
   .rg true 0 2, .rg false 0 2, .rg true 1 2, .rg false 1 2, .rg true 2 2, .rg false 2 2,
   .rg true 0 3, .rg false 1 3, .rg true 2 3,
   .ex 0, .ex 1, .ex 2, .ex 3]

/-- The order the waits follow: send cells first, then the barrier, the line by distance, the rings by step, the exit. -/
def levC (c : Dev nD) : Ce → ℕ
  | .bar => 1
  | .ex => 20
  | .zr d => 2 + (max (zc c).val (chf (zc c) d).val - min (zc c).val (chf (zc c) d).val)
  | .rr _ _ j => 10 + j.val
  | _ => 0
/-- What a device owes its peers is owed at a positive level. -/
theorem lev_pos : ∀ c, ∀ p ∈ pl, 0 < levC (ptgt c p).1 (ptgt c p).2 := by decide +kernel

/-- Whether a wait may come when the payments from the `n`-th on are still due. -/
def Waitable (n : ℕ) (c : Dev nD) (k : Ce) : Prop :=
  ∀ p ∈ pl.drop n, pact c p = true → levC c k < levC (ptgt c p).1 (ptgt c p).2
instance (n c k) : Decidable (Waitable n c k) := by unfold Waitable; infer_instance

end Cert.KernelIdeal.Coll
-- ==== Proof.Sched.lean ====
/-
  What each semaphore of the all-gather hands over, round by round: the barrier the room to land in, the line's and the
  rings' receive cells the stripes that arrived, the send cells the stripes that left.
-/
module
public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Tactic
@[expose] public section
noncomputable section
namespace Cert.KernelIdeal.Coll
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties: at most four to a round. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, counters at zero, any generator registers. -/
def s₀ : MemSt nD τ sig (Elt F) := ⟨m, fun _ => 0, ρ⟩

/-! ## The buffers -/

abbrev xM : Memref sig .tc .vmem S1024x512 .f32 := Memref.whole cc0_stg0_0
abbrev oM : Memref sig .tc .vmem S4096x512 .f32 := Memref.whole cc0_stg1_0
abbrev gM : Memref sig .tc .vmem S128x512 .f32 := Memref.whole cc0_scratch0

/-- Every stripe lies within the gathered array. -/
theorem so_inb (ch : Fin 4) (o : Fin 8) : ∀ a, so ch o a + S128x512.size a ≤ S4096x512.size a := by
  revert ch o; decide +kernel

/-- Stripe `o` of chunk `ch` of the gathered array. -/
abbrev oS (ch : Fin 4) (o : Fin 8) : Memref sig .tc .vmem S128x512 .f32 :=
  oM.slice (Rect.unit (s := S4096x512) (so ch o) S128x512.size (so_inb ch o)) (fun _ => rfl)

/-- What a stripe's transfer credits. -/
abbrev N : ℕ := (oS 0 0).view.dmaCredit
/-- A stripe's copy pays a positive credit. -/
theorem N_pos : 0 < N := View.dmaCredit_pos _ (by decide)
/-- Every stripe's copy pays the same credit. -/
theorem N_oS (ch : Fin 4) (o : Fin 8) : (oS ch o).view.dmaCredit = N := rfl
/-- So does the copy of the staged stripe. -/
theorem N_gM : gM.view.dmaCredit = N := rfl

/-! ## Contents -/

/-- Device `c`'s block of `x`, as its kernel finds it. -/
def xstg (c : Dev nD) : (cc0_stg0_0 : Ref sig .tc).ty.Contents (Elt F) :=
  (win0_0.blk (0 : Fin 1)).view.read (Elt F) ((s₀ m ρ).mem ((c : Thread nD τ).loc main_arg0))

/-- An index of a block from a row and a column. -/
def xi (r k : ℕ) : S1024x512.Idx := fun a => match a with
  | ⟨0, _⟩ => ⟨r % 1024, Nat.mod_lt _ (by decide)⟩
  | ⟨1, _⟩ => ⟨k % 512, Nat.mod_lt _ (by decide)⟩

/-- Every stripe as it travels: the row's stripe is that of the device at the stripe's ring place and the chunk's coordinate. -/
def gat : (cc0_stg1_0 : Ref sig .tc).ty.Contents (Elt F) := fun (i : S4096x512.Idx) =>
  xstg m ρ (mk (Fin.ofNat 8 ((i 0 : ℕ) / 128)) (Fin.ofNat 4 ((i 0 : ℕ) / 1024))) (xi (i 0 : ℕ) (i 1 : ℕ))

/-- What device `c` ends with: its own block in its own chunk, the stripes that travelled elsewhere. -/
def fin (c : Dev nD) : (cc0_stg1_0 : Ref sig .tc).ty.Contents (Elt F) := fun (i : S4096x512.Idx) =>
  if (i 0 : ℕ) / 1024 = (zc c).val then xstg m ρ c (xi (i 0 : ℕ) (i 1 : ℕ)) else gat m ρ i

/-- What device `c` stages to send along the line: its stripe of its own block. -/
def stgc (c : Dev nD) : (cc0_scratch0 : Ref sig .tc).ty.Contents (Elt F) := (oS (zc c) (rc c)).view.read (Elt F) (gat m ρ)

/-- Stripe `o` of chunk `ch` on device `c`, at share `q` and contents `f`. -/
def stripe (c : Dev nD) (ch : Fin 4) (o : Fin 8) (q : PosShare TreeShare) (f : Buf (Elt F) ((oS ch o).view.loc (c : Thread nD τ))) : sProp 𝕄 :=
  (oS ch o).view.loc (c : Thread nD τ) ↦[(oS ch o).view.set]{q} f
/-- The stripe at any contents: room to land in. -/
def room (c : Dev nD) (ch : Fin 4) (o : Fin 8) : sProp 𝕄 := iprop(∃ f, stripe c ch o fullShare f)
/-- The stripe holding what travels. -/
def full (c : Dev nD) (ch : Fin 4) (o : Fin 8) (q : PosShare TreeShare) : sProp 𝕄 := stripe c ch o q (gat m ρ)
/-- The staged stripe. -/
def stage (c : Dev nD) (q : PosShare TreeShare) (f : (cc0_scratch0 : Ref sig .tc).ty.Contents (Elt F)) : sProp 𝕄 :=
  gM.view.loc (c : Thread nD τ) ↦[gM.view.set]{q} f

instance stripe_storable (c : Dev nD) (ch o q f) : BI.Storable (upEmb : UEmb _ 𝕄) (stripe (F := F) c ch o q f) := by unfold stripe; infer_instance
instance room_storable (c : Dev nD) (ch o) : BI.Storable (upEmb : UEmb _ 𝕄) (room (F := F) c ch o) := by unfold room; infer_instance
instance full_storable (c : Dev nD) (ch o q) : BI.Storable (upEmb : UEmb _ 𝕄) (full (F := F) m ρ c ch o q) := by unfold full; infer_instance
instance stage_storable (c : Dev nD) (q f) : BI.Storable (upEmb : UEmb _ 𝕄) (stage (F := F) c q f) := by unfold stage; infer_instance

/-! ## The shares a device lends to its transfers -/

/-- The share the line send lends. -/
def zq (u : Bool) (q : Option (Fin 3)) : PosShare TreeShare := match q with
  | none => if u then fullShare.left else fullShare.right
  | some _ => if u then fullShare.left.left else fullShare.left.right
/-- What the line send `q` reads, at that share. -/
def zsrc (c : Dev nD) (u : Bool) (q : Option (Fin 3)) : sProp 𝕄 := match q with
  | none => stage c (zq u none) (stgc m ρ c)
  | some d => full m ρ c (chf (zc c) d) (rc c) (zq u (some d))
/-- The share the ring's `j`-th send lends: a quarter of the device's own stripe, all of what came in. -/
def rq (w : Bool) (j : ℕ) : PosShare TreeShare := if j = 0 then (if w then fullShare.right.left else fullShare.right.right) else fullShare
/-- What the ring's `j`-th send reads, at that share. -/
def rsrc (c : Dev nD) (w : Bool) (d : Fin 3) (j : ℕ) : sProp 𝕄 := full m ρ c (chf (zc c) d) (sh w (rc c) j) (rq w j)

/-- The room a line send lands in. -/
def zroom (c : Dev nD) (u : Bool) (q : Option (Fin 3)) : sProp 𝕄 :=
  if zact u q c then room (zn u c) (zch c q) (rc c) else iprop(emp)
/-- The room a ring send lands in. -/
def rroom (c : Dev nD) (w : Bool) (d : Fin 3) (j : ℕ) : sProp 𝕄 := room (nx w c) (chf (zc c) d) (sh w (rc c) j)
/-- The rooms of `n` ring sends from the `j`-th on. -/
def rrooms (c : Dev nD) (w : Bool) (d : Fin 3) : ℕ → ℕ → sProp 𝕄
  | 0, _ => iprop(emp)
  | n + 1, j => iprop(rroom c w d j ∗ rrooms c w d n (j + 1))

instance zsrc_storable (c : Dev nD) (u q) : BI.Storable (upEmb : UEmb _ 𝕄) (zsrc (F := F) m ρ c u q) := by
  unfold zsrc; cases q <;> infer_instance
instance rsrc_storable (c : Dev nD) (w d j) : BI.Storable (upEmb : UEmb _ 𝕄) (rsrc (F := F) m ρ c w d j) := by unfold rsrc; infer_instance
instance zroom_storable (c : Dev nD) (u q) : BI.Storable (upEmb : UEmb _ 𝕄) (zroom (F := F) c u q) := by unfold zroom; split <;> infer_instance
instance rroom_storable (c : Dev nD) (w d j) : BI.Storable (upEmb : UEmb _ 𝕄) (rroom (F := F) c w d j) := by unfold rroom; infer_instance
instance rrooms_storable (c : Dev nD) (w d n j) : BI.Storable (upEmb : UEmb _ 𝕄) (rrooms (F := F) c w d n j) := by
  induction n generalizing j with
  | zero => unfold rrooms; infer_instance
  | succ n ih => unfold rrooms; haveI := ih (j + 1); infer_instance

/-! ## The schedule -/

/-- What a barrier signal hands device `t`: the rooms `t` may land in at the signaller. -/
def barPay (t : Dev nD) (k : Fin 4) : sProp 𝕄 := match k with
  | 0 => iprop(rrooms t false 0 (hops false 0) 0 ∗ rrooms t false 1 (hops false 1) 0 ∗ rrooms t false 2 (hops false 2) 0)
  | 1 => iprop(rrooms t true 0 (hops true 0) 0 ∗ rrooms t true 1 (hops true 1) 0 ∗ rrooms t true 2 (hops true 2) 0)
  | 2 => iprop(zroom t false none ∗ zroom t false (some 0) ∗ zroom t false (some 1) ∗ zroom t false (some 2))
  | 3 => iprop(zroom t true none ∗ zroom t true (some 0) ∗ zroom t true (some 1) ∗ zroom t true (some 2))

/-- Whether the line's send cell is used. -/
def zsA (c : Dev nD) (i : Fin 5) : Bool :=
  if i = 0 then zdA true c else if i = 1 then zdA false c else
    (zfA true ⟨(i.val - 2) % 3, Nat.mod_lt _ (by decide)⟩ c || zfA false ⟨(i.val - 2) % 3, Nat.mod_lt _ (by decide)⟩ c)
/-- What the line's send cell gives back. -/
def zsPay (c : Dev nD) (i : Fin 5) : sProp 𝕄 :=
  if i = 0 then zsrc m ρ c true none else if i = 1 then zsrc m ρ c false none else
    zsrc m ρ c (zfA true ⟨(i.val - 2) % 3, Nat.mod_lt _ (by decide)⟩ c) (some ⟨(i.val - 2) % 3, Nat.mod_lt _ (by decide)⟩)

def dutC (c : Dev nD) (r : ℕ) : Ce → Finset (Fin 4)
  | .bar => if r = 0 then Finset.univ else ∅
  | .ex => if r = 0 then Finset.univ else ∅
  | .zs i => if r = 0 ∧ zsA c i = true then {0} else ∅
  | .zr _ => if r = 0 then {0} else ∅
  | .rs w d => if r < hops w d then {0} else ∅
  | .rr w d j => if r = 0 ∧ j.val < hops w d then {0} else ∅
def amtC : Ce → ℕ
  | .bar => 1
  | .ex => 1
  | _ => N
def payC (c : Dev nD) (r : ℕ) (k : Fin 4) : Ce → sProp 𝕄
  | .bar => barPay c k
  | .ex => iprop(emp)
  | .zs i => zsPay m ρ c i
  | .zr d => full m ρ c (chf (zc c) d) (rc c) fullShare
  | .rs w d => rsrc m ρ c w d r
  | .rr w d j => full m ρ c (chf (zc c) d) (sh w (rc c) (j.val + 1)) fullShare

instance barPay_storable (t : Dev nD) (k : Fin 4) : BI.Storable (upEmb : UEmb _ 𝕄) (barPay (F := F) t k) := by
  match k with
  | 0 => unfold barPay; infer_instance
  | 1 => unfold barPay; infer_instance
  | 2 => unfold barPay; infer_instance
  | 3 => unfold barPay; infer_instance
instance zsPay_storable (c : Dev nD) (i : Fin 5) : BI.Storable (upEmb : UEmb _ 𝕄) (zsPay (F := F) m ρ c i) := by
  unfold zsPay; (repeat' split) <;> infer_instance
instance payC_storable (c : Dev nD) (r k ce) : BI.Storable (upEmb : UEmb _ 𝕄) (payC (F := F) m ρ c r k ce) := by
  cases ce <;> unfold payC <;> infer_instance

/-- The cell `k` of device `c`. -/
abbrev kcell (ck : Dev nD × Ce) : GSem nD τ sig := ((ck.1 : Thread nD τ), csem ck.2)

def Rd : Rounds.Schedule (GSem nD τ sig) (Fin 4) 𝕄 where
  duties g r := if g.1.2 = .tc then (match decode g.2 with | some k => dutC g.1.1 r k | none => ∅) else ∅
  unitless _ := False
  amount g _ _ := match decode g.2 with | some k => amtC k | none => 1
  payload g r d := match decode g.2 with | some k => payC m ρ g.1.1 r d k | none => iprop(emp)
  amount_pos g _ _ _ := by
    split
    · unfold amtC; split <;> first | exact Nat.one_pos | exact N_pos
    · exact Nat.one_pos

instance Rd_payload_storable (g : GSem nD τ sig) (r : ℕ) (d : Fin 4) :
    BI.Storable (upEmb : UEmb _ 𝕄) ((Rd (F := F) m ρ).payload g r d) := by
  show BI.Storable upEmb (match decode g.2 with | some k => payC m ρ g.1.1 r d k | none => iprop(emp))
  split <;> infer_instance

section Sched
variable (c : Dev nD) (k : Ce)

omit [FloatOps F] in
/-- The schedule's duties at a cell are the cell's. -/
theorem duties_eq (r : ℕ) : (Rd (F := F) m ρ).duties (kcell (c, k)) r = dutC c r k := by
  dsimp only [Rd]; rw [if_pos rfl, decode_csem]
omit [FloatOps F] in
/-- The schedule's amounts at a cell are the cell's. -/
theorem amount_eq (r : ℕ) (d : Fin 4) : (Rd (F := F) m ρ).amount (kcell (c, k)) r d = amtC k := by
  dsimp only [Rd]; rw [decode_csem]
omit [FloatOps F] in
/-- The schedule's payloads at a cell are the cell's. -/
theorem payload_eq (r : ℕ) (d : Fin 4) : (Rd (F := F) m ρ).payload (kcell (c, k)) r d = payC m ρ c r d k := by
  dsimp only [Rd]; rw [decode_csem]

omit [FloatOps F] in
/-- A round's units: the duties' number times the cell's amount. -/
theorem expect_eq (r : ℕ) : (Rd (F := F) m ρ).expect (kcell (c, k)) r = (dutC c r k).card * amtC k := by
  unfold Schedule.expect Schedule.amountOf
  rw [duties_eq, Finset.sum_congr rfl fun d _ => amount_eq m ρ c k r d, Finset.sum_const, smul_eq_mul]

omit [FloatOps F] in
/-- A round of one duty hands over its one payload. -/
theorem rest_one (r : ℕ) (h : dutC c r k = {0}) :
    bigSep ((Rd (F := F) m ρ).duties (kcell (c, k)) r \ ∅) (fun d => (Rd (F := F) m ρ).payload (kcell (c, k)) r d) = payC m ρ c r 0 k := by
  rw [Finset.sdiff_empty, duties_eq, h, bigSep_singleton, payload_eq]

omit [FloatOps F] in
/-- A round of four hands over its four. -/
theorem rest_four (r : ℕ) (h : dutC c r k = Finset.univ) :
    bigSep ((Rd (F := F) m ρ).duties (kcell (c, k)) r \ ∅) (fun d => (Rd (F := F) m ρ).payload (kcell (c, k)) r d)
      = iprop(payC m ρ c r 0 k ∗ payC m ρ c r 1 k ∗ payC m ρ c r 2 k ∗ payC m ρ c r 3 k) := by
  rw [Finset.sdiff_empty, duties_eq, h, bigSep_univ_eq_bigSepL [0, 1, 2, 3] (by decide) (by decide)]
  simp only [payload_eq]
  rfl

end Sched

/-! ## What is owed -/

/-- One payment's units on its cell; none if the device does not make it. -/
def pay (c : Dev nD) (p : P) : CellTallies nD τ sig Unit :=
  if pact c p then tallyAt (kcell (ptgt c p)) () (amtC (ptgt c p).2) else 0
/-- The payments due from the `n`-th on. -/
def owedN (c : Dev nD) (n : ℕ) : CellTallies nD τ sig Unit := ((pl.drop n).map (pay c)).sum

/-- What is owed before the `n`-th payment is that payment and what is owed after it. -/
theorem owedN_succ (c : Dev nD) (n : ℕ) (p : P) (h : pl[n]? = some p) : owedN c n = owedN c (n + 1) + pay c p := by
  unfold owedN
  obtain ⟨hn, hp⟩ := List.getElem?_eq_some_iff.mp h
  rw [List.drop_eq_getElem_cons hn, hp, List.map_cons, List.sum_cons, add_comm]
/-- After all the payments nothing is owed. -/
theorem owedN_end (c : Dev nD) : owedN c 37 = 0 := rfl

def L (g : GSem nD τ sig) : Finset Unit := if g.1.2 = .tc then {()} else ∅
def lv (g : GSem nD τ sig) (_ : Unit) : ℕ := match decode g.2 with | some k => levC g.1.1 k | none => 0

/-- Only TensorCore threads' cells have levels. -/
theorem L_of_ne (g : GSem nD τ sig) (h : g.1.2 ≠ .tc) : L g = ∅ := if_neg h
/-- Each cell of a TensorCore thread has one. -/
theorem L_tc (c : Dev nD) (sm : SemLoc sig) : L ((c : Thread nD τ), sm) = {()} := if_pos rfl
/-- The level of a cell of the schedule is the cell's. -/
theorem lv_eq (c : Dev nD) (k : Ce) (u : Unit) : lv (kcell (c, k)) u = levC c k := by dsimp only [lv]; rw [decode_csem]

/-- Something owed is owed to the cell of a payment still due. -/
theorem owed_pos {c : Dev nD} {l : List P} {g : GSem nD τ sig} {u : Unit} (h : 0 < (l.map (pay c)).sum g u) :
    ∃ p ∈ l, pact c p = true ∧ g = kcell (ptgt c p) := by
  induction l with
  | nil => exact absurd h (Nat.lt_irrefl 0)
  | cons p l ih =>
    rw [List.map_cons, List.sum_cons, Pi.add_apply, Finsupp.add_apply] at h
    rcases Nat.add_pos_iff_pos_or_pos.mp h with h | h
    · unfold pay at h
      split at h
      · next ha =>
        rw [tallyAt_apply] at h
        by_cases he : g = kcell (ptgt c p) ∧ u = ()
        · exact ⟨p, List.mem_cons_self, ha, he.1⟩
        · rw [if_neg he] at h; exact absurd h (Nat.lt_irrefl 0)
      · exact absurd h (Nat.lt_irrefl 0)
    · obtain ⟨q, hq, ha, he⟩ := ih h
      exact ⟨q, List.mem_cons_of_mem _ hq, ha, he⟩

omit [FloatOps F] in
/-- A wait at level `b`, everything owed above it. -/
theorem mayWait_lev (c : Dev nD) (sm : SemLoc sig) (b : ℕ) (n : ℕ) (hb : lv ((c : Thread nD τ), sm) () = b)
    (h : ∀ p ∈ pl.drop n, pact c p = true → b < levC (ptgt c p).1 (ptgt c p).2) :
    (levAts L lv : sProp 𝕄) ⊢ MayWait (c : Thread nD τ) sm () (owedN c n) :=
  MayOwe.of_cut (L := L) (lev := lv) b (fun p hp => by rw [Finset.mem_singleton.mp hp, L_tc]; exact Finset.mem_singleton_self _)
    (fun g u hg => by obtain ⟨p, -, -, rfl⟩ := owed_pos hg; exact Finset.mem_singleton_self _)
    (fun p hp => by rw [Finset.mem_singleton.mp hp]; exact hb.le)
    (fun g u hg => by obtain ⟨p, hp, ha, rfl⟩ := owed_pos hg; rw [lv_eq]; exact h p hp ha)

omit [FloatOps F] in
/-- Where every payment still owed is to a higher level than the cell's, the device may wait there. -/
theorem mayWait (c : Dev nD) (k : Ce) (n : ℕ) (h : Waitable n c k) :
    (levAts L lv : sProp 𝕄) ⊢ MayWait (c : Thread nD τ) (csem k) () (owedN c n) :=
  mayWait_lev c (csem k) _ n (lv_eq c k ()) h

end Cert.KernelIdeal.Coll
end
-- ==== Proof.Steps.lean ====
/-
  One lemma an effect: a signal, a transfer along the line or round a ring, a wait, each from what the device holds before
  it to what it holds after.
-/
module
public import proofs.«01_k».proof.Proof.Sched
@[expose] public section
noncomputable section
namespace Cert.KernelIdeal.Coll
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every cell's invariant and its first round reached: shared by all devices. -/
def records (K : Dev nD × Ce → ℕ) : sProp 𝕄 :=
  iprop((bigSep Finset.univ fun ck : Dev nD × Ce => cellInv ER (Rd m ρ) (K ck) (kcell ck))
    ∗ bigSep Finset.univ fun ck : Dev nD × Ce => reached ER (kcell ck) 0)
instance records_persistent (K : Dev nD × Ce → ℕ) : BI.Persistent (records m ρ K) := by unfold records; infer_instance

omit [FloatOps F] in
/-- The invariant of one cell, of all the cells' records. -/
theorem inv_at (K : Dev nD × Ce → ℕ) (ck : Dev nD × Ce) : records m ρ K ⊢ cellInv ER (Rd m ρ) (K ck) (kcell ck) :=
  (Laws.sep_elim_left).trans (bigSep_elim (Finset.mem_univ ck))
omit [FloatOps F] in
/-- Each cell has reached its first round. -/
theorem reached_at (K : Dev nD × Ce → ℕ) (ck : Dev nD × Ce) : records m ρ K ⊢ reached ER (kcell ck) 0 :=
  (Laws.sep_elim_right).trans (bigSep_elim (Finset.mem_univ ck))

/-- What stays through the run: the shared facts, and the payments due from the `n`-th on. -/
def HO (K : Dev nD × Ce → ℕ) (c : Dev nD) (n : ℕ) : sProp 𝕄 :=
  iprop(records m ρ K ∗ levAts L lv ∗ ∃ W, owes (c : Thread nD τ) (owedN c n) W)

variable (K : Dev nD × Ce → ℕ) (c : Dev nD)

/-- At a cell of level 0 a device may always wait. -/
theorem waitable_zero {c : Dev nD} {k : Ce} (h : levC c k = 0) (n : ℕ) : Waitable n c k :=
  fun p hp _ => h ▸ lev_pos c p (List.mem_of_mem_drop hp)

omit [FloatOps F] in
/-- A payment this device does not make changes nothing. -/
theorem HO_skip (n : ℕ) (p : P) (hp : pl[n]? = some p) (ha : ¬ pact c p = true) : HO m ρ K c n = HO m ρ K c (n + 1) := by
  unfold HO; rw [owedN_succ c n p hp, pay, if_neg ha, add_zero]

omit [FloatOps F] in
/-- A cell with no round left closes: its counter at zero. -/
theorem close (k : Ce) (r : ℕ) (h : ∀ r', r ≤ r' → dutC c r' k = ∅) :
    records m ρ K ⊢ iprop(atPos ER (kcell (c, k)) r ∅ 0 -∗ |={Set.univ}=> (semVal (kcell (c, k)) 0 : sProp 𝕄)) := by
  iintro #HR Hat
  iapply (Rounds.cell_close ER (Rd m ρ) (Set.mem_univ (K (c, k))) (fun h => h) (R := r) (fun r' hr => (duties_eq m ρ c k r').trans (h r' hr)))
  isplitr; · iapply (inv_at m ρ K (c, k)); iexact HR
  iexact Hat

/-- A signal: the payment `p`, handing over its payload. -/
theorem signal_step (n : ℕ) (p : P) (hp : pl[n]? = some p) (ha : pact c p = true) {t1 : Dev nD} {t2 : Ce} (ht : ptgt c p = (t1, t2)) (kd : Fin 4)
    (hd : kd ∈ dutC t1 0 t2) (h1 : amtC t2 = 1) {c' : Dev nD} (hc : c' = t1)
    {s : Sem sig} (hs : SemLoc.reg s = csem t2) {k' : ℕ} (hk : k' = 1)
    {α : Type} {Q : α → sProp 𝕄} {k : PUnit → Prog (TpuEff nD τ sig (Elt F) Λ₀ .tc) α} :
    HO m ρ K c n ⊢ iprop(dutyTok ER (kcell (t1, t2)) 0 kd -∗ payC m ρ t1 0 kd t2
      -∗ (HO m ρ K c (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (c' : Thread nD τ) s k') k) Q) := by
  have e1 : (ptgt c p).1 = t1 := congrArg Prod.fst ht
  have e2 : (ptgt c p).2 = t2 := congrArg Prod.snd ht
  subst hk
  replace hc := hc.symm
  subst hc
  unfold HO
  iintro ⟨#HR, #Hlev, %W, HO⟩ Htok Hpay Hk
  have hk' : (kcell (t1, t2) : GSem nD τ sig) = ((t1 : Thread nD τ), .reg s) := by rw [hs]
  iapply (Rounds.wp_signal 𝒱₀ ER (Rd m ρ) (c : Thread nD τ) none (dst := (t1 : Thread nD τ)) (κ := K (t1, t2))
      (r := 0) (d := kd) (by rw [hs]; exact (duties_eq m ρ _ _ 0) ▸ hd) (by rw [hs]; exact (amount_eq m ρ _ _ 0 kd).trans h1) ()
      (O₀ := owedN c n) (owedN c (n + 1)) (by rw [owedN_succ c n p hp, pay, if_pos ha, ht, h1, hk']) (W := W)) $$ [HO Htok Hpay]
  · isplitr; · rw [hs]; iapply (inv_at m ρ K (t1, t2)); iexact HR
    isplitl [HO]; · iexact HO
    isplitl [Htok]; · rw [hs]; iexact Htok
    isplitl [Hpay]; · rw [hs]; iapply (Entails.of_eq (payload_eq m ρ _ _ 0 kd).symm); iexact Hpay
    rw [hs]; iapply (reached_at m ρ K (t1, t2)); iexact HR
  iintro HO
  iapply Hk
  isplitr; · iexact HR
  isplitr; · iexact Hlev
  iexists W; iexact HO

/-- A wait for a whole round of a cell. -/
theorem wait_step (n : ℕ) (k : Ce) (r : ℕ) (hW : Waitable n c k) {w : TpuEff nD τ sig (Elt F) Λ₀ .tc PUnit} {k' : ℕ} {sm : SemLoc sig}
    (hs : sm = csem k)
    (hw : ∀ Kt : PUnit → sProp 𝕄, wpE (defs₀ (F := F)) 𝒱₀ (c : Thread nD τ) none Set.univ w Kt = waitSpec (c : Thread nD τ) Set.univ sm k' Kt)
    (hk : k' = (dutC c r k).card * amtC k)
    {α : Type} {Q : α → sProp 𝕄} {kk : PUnit → Prog (TpuEff nD τ sig (Elt F) Λ₀ .tc) α} :
    HO m ρ K c n ⊢ iprop(cred (tallyAt (kcell (c, k)) () k') -∗ atPos ER (kcell (c, k)) r ∅ 0
      -∗ (HO m ρ K c n -∗ atPos ER (kcell (c, k)) (r + 1) ∅ 0 -∗ reached ER (kcell (c, k)) (r + 1)
          -∗ bigSep ((Rd (F := F) m ρ).duties (kcell (c, k)) r \ ∅) (fun d => (Rd (F := F) m ρ).payload (kcell (c, k)) r d)
          -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  subst hs
  unfold HO
  iintro ⟨#HR, #Hlev, %W, HO⟩ Hc Hat Hk
  iapply (Rounds.wp_wait_rest_token 𝒱₀ ER (Rd m ρ) (c : Thread nD τ) none (κ := K (c, k)) hw (Set.mem_univ _) () (O := owedN c n) (W := W)
      (R := r) (m := 0) (T := ∅) (by rw [Nat.zero_add, expect_eq, hk])) $$ [HO Hc Hat]
  · isplitr; · iapply (inv_at m ρ K (c, k)); iexact HR
    isplitl [Hc]; · iexact Hc
    isplitl [HO]; · iexact HO
    isplitr; · iapply (mayWait c k n hW); iexact Hlev
    iexact Hat
  iintro ⟨HO, Hat, Hr, Hp⟩
  iapply Hk $$ [HO] Hat Hr Hp
  isplitr; · iexact HR
  isplitr; · iexact Hlev
  iexists _; iexact HO

/-- A DMA wait for a round of one duty. -/
theorem wait_dma (n : ℕ) (k : Ce) (r : ℕ) (hW : Waitable n c k) (h1 : dutC c r k = {0}) (hN : amtC k = N)
    {s1 : DmaSem sig} (hs : SemLoc.dma s1 = csem k)
    {sp sp' : Space} {s s' : Shape} {e e' : EltTy} {src : Memref sig .tc sp' s' e'} {dst : Memref sig .tc sp s e} {hsrc : src.view.WordExact} {hdst : dst.view.WordExact}
    (hd : dst.view.dmaCredit = N)
    {α : Type} {Q : α → sProp 𝕄} {kk : PUnit → Prog (TpuEff nD τ sig (Elt F) Λ₀ .tc) α} :
    HO m ρ K c n ⊢ iprop(cred (tallyAt (kcell (c, k)) () N) -∗ atPos ER (kcell (c, k)) r ∅ 0
      -∗ (HO m ρ K c n -∗ atPos ER (kcell (c, k)) (r + 1) ∅ 0 -∗ reached ER (kcell (c, k)) (r + 1) -∗ payC m ρ c r 0 k
          -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 s1 src dst hsrc hdst) kk) Q) := by
  iintro HO Hc Hat Hk
  iapply (wait_step m ρ K c n k r hW hs (wpE_waitDma2_eq 𝒱₀ (c : Thread nD τ) none Set.univ) (by rw [h1, hN, hd, Finset.card_singleton, Nat.one_mul])) $$ HO [Hc] Hat
  · rw [hd]; iexact Hc
  iintro HO Hat Hr Hp
  ihave Hp := (Entails.of_eq (rest_one m ρ c k r h1)) $$ Hp
  iapply Hk $$ HO Hat Hr Hp

/-- A transfer: the payment `p`, completing on the own cell `kS`. -/
theorem send_step (n : ℕ) (p : P) (hp : pl[n]? = some p) (ha : pact c p = true) {t1 : Dev nD} {t2 : Ce} (ht : ptgt c p = (t1, t2)) (kS : Ce) (r : ℕ)
    (hdS : dutC c r kS = {0}) (hdR : dutC t1 0 t2 = {0}) (hS1 : amtC kS = N) (hR1 : amtC t2 = N)
    {c' : Dev nD} (hc : c' = t1) {sS sR : DmaSem sig} (hS : SemLoc.dma sS = csem kS) (hR : SemLoc.dma sR = csem t2)
    {sp sp' : Space} {s : Shape} {e : EltTy} {src : Memref sig .tc sp s e} {dst : Memref sig .tc sp' s e}
    {hsc : dst.view.ref.isScScratch = false}
    {hsrc : src.view.WordExact} {hdst : dst.view.WordExact}
    {hsem : DmaTarget.Typed sp (.dma sR) (.remote (c' : Thread nD τ) dst (.dma sS) hsc)}
    (hN : dst.view.dmaCredit = N) {q : PosShare TreeShare} {fs : Buf (Elt F) (src.view.loc (c : Thread nD τ))} {fd : Buf (Elt F) (dst.view.loc (c' : Thread nD τ))}
    (hpay₁ : (src.view.loc (c : Thread nD τ) ↦[src.view.set]{q} fs) ⊢ payC m ρ c r 0 kS)
    (hpay₂ : (dst.view.loc (c' : Thread nD τ) ↦[dst.view.set]{fullShare} (dst.view.write (Elt F) fd (src.view.read (Elt F) fs) Finset.univ))
      ⊢ payC m ρ t1 0 0 t2)
    {α : Type} {Q : α → sProp 𝕄} {kk : PUnit → Prog (TpuEff nD τ sig (Elt F) Λ₀ .tc) α} :
    HO m ρ K c n ⊢ iprop((src.view.loc (c : Thread nD τ) ↦[src.view.set]{q} fs) -∗ (dst.view.loc (c' : Thread nD τ) ↦[dst.view.set]{fullShare} fd)
      -∗ dutyTok ER (kcell (c, kS)) r 0 -∗ reached ER (kcell (c, kS)) r -∗ dutyTok ER (kcell (t1, t2)) 0 0
      -∗ (HO m ρ K c (n + 1) -∗ cred (tallyAt (kcell (c, kS)) () N)
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.remote (c' : Thread nD τ) dst (.dma sS) hsc) (.dma sR) hsrc hdst hsem) kk) Q) := by
  have e1 : (ptgt c p).1 = t1 := congrArg Prod.fst ht
  have e2 : (ptgt c p).2 = t2 := congrArg Prod.snd ht
  replace hc := hc.symm
  subst hc
  unfold HO
  iintro ⟨#HR, #Hlev, %W, HO⟩ Hsrc Hdst HtS HrS HtR Hk
  have hk' : (kcell (t1, t2) : GSem nD τ sig) = ((t1 : Thread nD τ), .dma sR) := by rw [hR]
  iapply (Rounds.wp_send_pointsTo 𝒱₀ ER (Rd m ρ) (c : Thread nD τ) none (κ₁ := K (c, kS)) (κ₂ := K (t1, t2))
      (r₁ := r) (r₂ := 0) (d₁ := 0) (d₂ := 0) (fd := fd)
      (by rw [hS, duties_eq, hdS]; exact Finset.mem_singleton_self _) (by rw [hR, duties_eq, hdR]; exact Finset.mem_singleton_self _)
      () () N (by rw [View.amount_dma]; exact hN) (by rw [hS, amount_eq, hS1]) (by rw [hR, amount_eq, hR1])
      (O₀ := owedN c n) (owedN c (n + 1)) (by rw [owedN_succ c n p hp, pay, if_pos ha, ht, hR1, hk']) (W := W)
      (by rw [hS, payload_eq]; exact hpay₁) (by rw [hR, payload_eq]; exact hpay₂)) $$ [HO Hsrc Hdst HtS HrS HtR]
  · isplitr; · rw [hS]; iapply (inv_at m ρ K (c, kS)); iexact HR
    isplitr; · rw [hR]; iapply (inv_at m ρ K (t1, t2)); iexact HR
    isplitl [Hsrc]; · iexact Hsrc
    isplitl [Hdst]; · iexact Hdst
    isplitl [HO]; · iexact HO
    isplitl [HtS]; · rw [hS]; iexact HtS
    isplitl [HrS]; · rw [hS]; iexact HrS
    isplitl [HtR]; · rw [hR]; iexact HtR
    rw [hR]; iapply (reached_at m ρ K (t1, t2)); iexact HR
  rw [hS]
  iintro ⟨Hc, HO⟩
  iapply Hk $$ [HO] Hc
  isplitr; · iexact HR
  isplitr; · iexact Hlev
  iexists W; iexact HO

omit [FloatOps F] in
/-- What completes a line send. -/
theorem payC_zs (d : Dev nD) (r k i) : payC m ρ d r k (.zs i) = zsPay m ρ d i := rfl
omit [FloatOps F] in
/-- What arrives along the line. -/
theorem payC_zr (d : Dev nD) (r k i) : payC m ρ d r k (.zr i) = full m ρ d (chf (zc d) i) (rc d) fullShare := rfl
omit [FloatOps F] in
/-- What completes a ring send. -/
theorem payC_rs (d : Dev nD) (r k w i) : payC m ρ d r k (.rs w i) = rsrc m ρ d w i r := rfl
omit [FloatOps F] in
/-- What arrives round the ring. -/
theorem payC_rr (d : Dev nD) (r k w i j) : payC m ρ d r k (.rr w i j) = full m ρ d (chf (zc d) i) (sh w (rc d) (j.val + 1)) fullShare := rfl

end Cert.KernelIdeal.Coll
end
-- ==== Proof.Contents.lean ====
/-
  What the loads, the stores and the landings leave, and the gathered array cut into its stripes and put together again.
-/
module
public import proofs.«01_k».proof.Proof.Sched
public import proofs.«01_k».proof.Proof.Gen.KernelIdeal.Skeleton
public import Idealize.ShloMosaic.Lib.Pipeline.ValueKit.Geometry
@[expose] public section
noncomputable section
namespace Cert.KernelIdeal.Coll
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Indices -/

/-- The row of an index of the gathered array and its stripe. -/
theorem mem_oS (ch : Fin 4) (o : Fin 8) (i : S4096x512.Idx) :
    i ∈ (oS ch o).view.set ↔ 1024 * ch.val + 128 * o.val ≤ (i 0 : ℕ) ∧ (i 0 : ℕ) < 1024 * ch.val + 128 * o.val + 128 := by
  have h1 : (i 1 : ℕ) < 512 := (i 1).isLt
  rw [show (oS ch o).view.set = (Rect.unit (s := S4096x512) (so ch o) S128x512.size (so_inb ch o)).set from View.set_slice_whole _ _,
    Rect.mem_set_unit]
  constructor
  · intro h; exact h 0
  · intro h a
    match a with
    | ⟨0, _⟩ => exact h
    | ⟨1, _⟩ => exact ⟨Nat.zero_le _, by show (i 1 : ℕ) < 0 + 512; omega⟩

/-- Every chunk lies within the gathered array. -/
theorem co_inb (ch : Fin 4) : ∀ a, (![1024 * ch.val, 0] : Fin 2 → ℕ) a + S1024x512.size a ≤ S4096x512.size a := by
  revert ch; decide +kernel
/-- Chunk `ch` of the gathered array. -/
abbrev oC (ch : Fin 4) : Memref sig .tc .vmem S1024x512 .f32 :=
  oM.slice (Rect.unit (s := S4096x512) ![1024 * ch.val, 0] S1024x512.size (co_inb ch)) (fun _ => rfl)

/-- An index lies in a chunk where its row does. -/
theorem mem_oC (ch : Fin 4) (i : S4096x512.Idx) : i ∈ (oC ch).view.set ↔ (i 0 : ℕ) / 1024 = ch.val := by
  have h1 : (i 1 : ℕ) < 512 := (i 1).isLt
  rw [show (oC ch).view.set = (Rect.unit (s := S4096x512) ![1024 * ch.val, 0] S1024x512.size (co_inb ch)).set from View.set_slice_whole _ _,
    Rect.mem_set_unit]
  constructor
  · intro h; have h0 : 1024 * ch.val ≤ (i 0 : ℕ) ∧ (i 0 : ℕ) < 1024 * ch.val + 1024 := h 0; omega
  · intro h a
    match a with
    | ⟨0, _⟩ => show 1024 * ch.val ≤ (i 0 : ℕ) ∧ (i 0 : ℕ) < 1024 * ch.val + 1024; omega
    | ⟨1, _⟩ => exact ⟨Nat.zero_le _, by show (i 1 : ℕ) < 0 + 512; omega⟩

/-- Where an index of a stripe lies in the gathered array. -/
theorem emb_oS (ch : Fin 4) (o : Fin 8) (y : S128x512.Idx) :
    (((oS ch o).view.emb y : S4096x512.Idx) 0 : ℕ) = 1024 * ch.val + 128 * o.val + (y 0 : ℕ)
      ∧ (((oS ch o).view.emb y : S4096x512.Idx) 1 : ℕ) = (y 1 : ℕ) := by
  refine ⟨(ValueKit.view_emb_slice_whole_unit_val cc0_stg1_0 (so ch o) S128x512.size (so_inb ch o) y 0), ?_⟩
  exact (ValueKit.view_emb_slice_whole_unit_val cc0_stg1_0 (so ch o) S128x512.size (so_inb ch o) y 1).trans (Nat.zero_add _)

/-- Where an index of a chunk lies in the gathered array. -/
theorem emb_oC (ch : Fin 4) (y : S1024x512.Idx) :
    (((oC ch).view.emb y : S4096x512.Idx) 0 : ℕ) = 1024 * ch.val + (y 0 : ℕ) ∧ (((oC ch).view.emb y : S4096x512.Idx) 1 : ℕ) = (y 1 : ℕ) := by
  refine ⟨(ValueKit.view_emb_slice_whole_unit_val cc0_stg1_0 ![1024 * ch.val, 0] S1024x512.size (co_inb ch) y 0), ?_⟩
  exact (ValueKit.view_emb_slice_whole_unit_val cc0_stg1_0 ![1024 * ch.val, 0] S1024x512.size (co_inb ch) y 1).trans (Nat.zero_add _)

/-- The index of a block with an index's row and column is that index. -/
theorem xi_eq (y : S1024x512.Idx) (r k : ℕ) (h0 : r % 1024 = (y 0 : ℕ)) (h1 : k = (y 1 : ℕ)) : xi r k = y := by
  have h2 : (y 1 : ℕ) < 512 := (y 1).isLt
  refine funext fun a => Fin.ext ?_
  match a with
  | ⟨0, _⟩ => exact h0
  | ⟨1, _⟩ => show k % 512 = (y 1 : ℕ); rw [h1]; exact Nat.mod_eq_of_lt h2

/-! ## Contents -/

variable (c : Dev nD)

omit [FloatOps F] in
/-- A landing of what travels leaves what travels. -/
theorem landed (d : Dev nD) (ch : Fin 4) (o : Fin 8) (fd : Buf (Elt F) ((oS ch o).view.loc (d : Thread nD τ))) :
    stripe d ch o fullShare ((oS ch o).view.write (Elt F) fd ((oS ch o).view.read (Elt F) (gat m ρ)) Finset.univ) = full m ρ d ch o fullShare := by
  unfold full stripe
  refine pointsTo_congr fun i hi => ?_
  rw [View.write_read_eq_piecewise]
  unfold Finset.piecewise
  rw [View.setOn_univ]
  exact if_pos hi

/-- The staged stripe is the device's own block's. -/
theorem load_stg : (xM : Memref sig .tc .vmem S1024x512 .f32).view.readAt (Elt F)
      (Rect.unit (s := S1024x512) (k0_off1 c) S128x512.size (k0_off1_inb c)).toLoadRect (xstg m ρ c) = stgc m ρ c := by
  have hz : (rc c).val < 8 := (rc c).isLt
  have hz' : (zc c).val < 4 := (zc c).isLt
  funext y
  have hy0 : (y 0 : ℕ) < 128 := (y 0).isLt
  obtain ⟨e0, e1⟩ := emb_oS (zc c) (rc c) y
  have hb0 := ValueKit.view_emb_slice_whole_unit_val cc0_stg0_0 (k0_off1 c) S128x512.size (k0_off1_inb c) y 0
  have hb1 := ValueKit.view_emb_slice_whole_unit_val cc0_stg0_0 (k0_off1 c) S128x512.size (k0_off1_inb c) y 1
  have ho0 : k0_off1 c 0 = 128 * (rc c).val := by rw [off1_eq]; rfl
  have ho1 : k0_off1 c 1 = 0 := by rw [off1_eq]; rfl
  rw [ho0] at hb0
  rw [ho1, Nat.zero_add] at hb1
  show xstg m ρ c _ = gat m ρ ((oS (zc c) (rc c)).view.emb y)
  unfold gat
  rw [e0, e1]
  have hd : mk (Fin.ofNat 8 ((1024 * (zc c).val + 128 * (rc c).val + (y 0 : ℕ)) / 128)) (Fin.ofNat 4 ((1024 * (zc c).val + 128 * (rc c).val + (y 0 : ℕ)) / 1024)) = c := by
    rw [show (Fin.ofNat 8 ((1024 * (zc c).val + 128 * (rc c).val + (y 0 : ℕ)) / 128)) = rc c from Fin.ext (by show _ % 8 = _; omega),
      show (Fin.ofNat 4 ((1024 * (zc c).val + 128 * (rc c).val + (y 0 : ℕ)) / 1024)) = zc c from Fin.ext (by show _ % 4 = _; omega), mk_rc_zc]
  rw [hd]
  refine congrArg (xstg m ρ c) (xi_eq _ _ _ ?_ ?_).symm
  · exact (by omega : _ = 128 * (rc c).val + (y 0 : ℕ)).trans hb0.symm
  · exact hb1.symm

omit [FloatOps F] in
/-- The own chunk is the device's own block. -/
theorem own_read : (oC (zc c)).view.read (Elt F) (fin m ρ c) = xstg m ρ c := by
  have hz' : (zc c).val < 4 := (zc c).isLt
  funext y
  have hy0 : (y 0 : ℕ) < 1024 := (y 0).isLt
  obtain ⟨e0, e1⟩ := emb_oC (zc c) y
  show fin m ρ c ((oC (zc c)).view.emb y) = _
  unfold fin
  rw [e0, e1, if_pos (by omega)]
  exact congrArg (xstg m ρ c) (xi_eq _ _ _ (by omega) rfl)

omit [FloatOps F] in
/-- The zero offsets, as a constant function. -/
theorem hz2 : (![0, 0] : Fin 2 → ℕ) = fun _ => 0 := funext fun a => by fin_cases a <;> rfl

/-- What the store to the stage leaves. -/
theorem store_stg (f : (cc0_scratch0 : Ref sig .tc).ty.Contents (Elt F)) (v : Vec F S128x512 .f32) :
    (gM.access (Rect.unit (s := S128x512) ![0, 0] S128x512.size inb_S128x512_S128x512_0_0) : View sig .tc _ _ _).write (Elt F) f (k0_pay1 v) Finset.univ = v := by
  refine (Memref.write_access_unit_zero_univ (Elt F) cc0_scratch0 hz2 _ f (k0_pay1 v)).trans ?_
  unfold k0_pay1
  simp only [shapeCast_self]

/-- The whole block, loaded. -/
theorem load_own : (xM : Memref sig .tc .vmem S1024x512 .f32).view.readAt (Elt F)
      (Rect.unit (s := S1024x512) ![0, 0] S1024x512.size inb_S1024x512_S1024x512_0_0).toLoadRect (xstg m ρ c) = xstg m ρ c :=
  Memref.readAt_unit_zero (Elt F) cc0_stg0_0 hz2 _ _

/-- The own chunk on the device. -/
def own (f : Buf (Elt F) ((c : Thread nD τ).loc cc0_stg1_0)) : sProp 𝕄 :=
  ((c : Thread nD τ).loc cc0_stg1_0) ↦[(oC (zc c)).view.set]{fullShare} f

/-- What the store to the own chunk leaves. -/
theorem store_own (off : Fin 2 → ℕ) (hoff : off = ![1024 * (zc c).val, 0]) (inb : ∀ a, off a + S1024x512.size a ≤ S4096x512.size a)
    (f : (cc0_stg1_0 : Ref sig .tc).ty.Contents (Elt F)) :
    own c ((oM.access (Rect.unit (s := S4096x512) off S1024x512.size inb) : View sig .tc _ _ _).write (Elt F) f (k0_pay2 (xstg m ρ c)) Finset.univ)
      = own c (fin m ρ c) := by
  subst hoff
  unfold own
  refine pointsTo_congr fun i hi => ?_
  rw [show k0_pay2 (xstg m ρ c) = (oC (zc c)).view.read (Elt F) (fin m ρ c) from by rw [own_read]; unfold k0_pay2; simp only [shapeCast_self]]
  show (oC (zc c)).view.write (Elt F) f ((oC (zc c)).view.read (Elt F) (fin m ρ c)) Finset.univ i = _
  rw [View.write_read_eq_piecewise]
  unfold Finset.piecewise
  rw [View.setOn_univ]
  exact if_pos hi

/-! ## Shares -/

omit [FloatOps F] in
/-- The staged stripe in two half shares. -/
theorem stage_half (f) : (stage (F := F) c fullShare f) ⊣⊢ iprop(stage c fullShare.left f ∗ stage c fullShare.right f) := by
  unfold stage; exact pointsTo_share (PosShare.mem_left_op_right _)

omit [FloatOps F] in
/-- A stripe in two half shares. -/
theorem stripe_half (ch o q f) : (stripe (F := F) c ch o q f) ⊣⊢ iprop(stripe c ch o q.left f ∗ stripe c ch o q.right f) := by
  unfold stripe; exact pointsTo_share (PosShare.mem_left_op_right _)

omit [FloatOps F] in
/-- A stripe holding what travels, in two half shares. -/
theorem full_half (ch o q) : (full m ρ c ch o q) ⊣⊢ iprop(full m ρ c ch o q.left ∗ full m ρ c ch o q.right) := stripe_half c ch o q _

omit [FloatOps F] in
/-- The four loans of a stripe that came in, as shares of it. -/
theorem loans (d : Fin 3) : zsrc m ρ c true (some d) = full m ρ c (chf (zc c) d) (rc c) fullShare.left.left
    ∧ zsrc m ρ c false (some d) = full m ρ c (chf (zc c) d) (rc c) fullShare.left.right
    ∧ rsrc m ρ c true d 0 = full m ρ c (chf (zc c) d) (rc c) fullShare.right.left
    ∧ rsrc m ρ c false d 0 = full m ρ c (chf (zc c) d) (rc c) fullShare.right.right := by
  refine ⟨rfl, rfl, ?_, ?_⟩ <;> (unfold rsrc rq; rw [sh_zero]; rfl)

omit [FloatOps F] in
/-- A stripe that came in, lent to its four transfers. -/
theorem lend (d : Fin 3) : full m ρ c (chf (zc c) d) (rc c) fullShare
    ⊢ iprop((zsrc m ρ c true (some d) ∗ zsrc m ρ c false (some d)) ∗ rsrc m ρ c true d 0 ∗ rsrc m ρ c false d 0) := by
  obtain ⟨e1, e2, e3, e4⟩ := loans m ρ c d
  rw [e1, e2, e3, e4]
  exact (full_half m ρ c _ _ fullShare).1.trans (BI.sep_mono (full_half m ρ c _ _ fullShare.left).1 (full_half m ρ c _ _ fullShare.right).1)

omit [FloatOps F] in
/-- And given back by them. -/
theorem unlend (d : Fin 3) : iprop((zsrc m ρ c true (some d) ∗ zsrc m ρ c false (some d)) ∗ rsrc m ρ c true d 0 ∗ rsrc m ρ c false d 0)
    ⊢ full m ρ c (chf (zc c) d) (rc c) fullShare := by
  obtain ⟨e1, e2, e3, e4⟩ := loans m ρ c d
  rw [e1, e2, e3, e4]
  exact (BI.sep_mono (full_half m ρ c _ _ fullShare.left).2 (full_half m ρ c _ _ fullShare.right).2).trans (full_half m ρ c _ _ fullShare).2

/-! ## The gathered array, cut -/

/-- The stripes of the chunks that a device receives are disjoint. -/
theorem cut_disj (z : Fin 4) : ∀ p ∈ (Finset.univ : Finset (Fin 3 × Fin 8)), ∀ p' ∈ (Finset.univ : Finset (Fin 3 × Fin 8)), p ≠ p' →
    Disjoint (oS (chf z p.1) p.2).view.set (oS (chf z p'.1) p'.2).view.set := by
  intro p _ p' _ hp
  refine Finset.disjoint_left.mpr fun i h h' => hp ?_
  rw [mem_oS] at h h'
  have h8 := p.2.isLt; have h8' := p'.2.isLt
  have e1 : chf z p.1 = chf z p'.1 := Fin.ext (by omega)
  have e2 : p.2 = p'.2 := Fin.ext (by have := congrArg Fin.val e1; omega)
  exact Prod.ext ((di_chf z p.1).symm.trans ((congrArg (di z) e1).trans (di_chf z p'.1))) e2

/-- They are disjoint from its own chunk. -/
theorem cut_own (z : Fin 4) : Disjoint (oC z).view.set ((Finset.univ : Finset (Fin 3 × Fin 8)).biUnion fun p => (oS (chf z p.1) p.2).view.set) := by
  refine Finset.disjoint_left.mpr fun i h h' => ?_
  obtain ⟨p, -, h'⟩ := Finset.mem_biUnion.mp h'
  rw [mem_oC] at h
  rw [mem_oS] at h'
  have h8 := p.2.isLt
  exact chf_ne z p.1 (Fin.ext (by omega))

/-- Its own chunk and they are the whole array. -/
theorem cut_cover (z : Fin 4) : (oC z).view.set ∪ ((Finset.univ : Finset (Fin 3 × Fin 8)).biUnion fun p => (oS (chf z p.1) p.2).view.set) = Finset.univ := by
  refine Finset.eq_univ_iff_forall.mpr fun i => ?_
  have h0 : ((i : S4096x512.Idx) 0 : ℕ) < 4096 := (i 0).isLt
  rw [Finset.mem_union, mem_oC]
  by_cases h : ((i : S4096x512.Idx) 0 : ℕ) / 1024 = z.val
  · exact Or.inl h
  · refine Or.inr (Finset.mem_biUnion.mpr ⟨(di z ⟨((i : S4096x512.Idx) 0 : ℕ) / 1024, by omega⟩, ⟨((i : S4096x512.Idx) 0 : ℕ) / 128 % 8, Nat.mod_lt _ (by decide)⟩), Finset.mem_univ _, ?_⟩)
    rw [mem_oS, chf_di z _ (fun e => h (congrArg Fin.val e).symm)]
    dsimp only
    omega

omit [FloatOps F] in
/-- The array is the own chunk and, chunk by chunk, the eight stripes of each other. -/
theorem cut (f : Buf (Elt F) ((c : Thread nD τ).loc cc0_stg1_0)) :
    (((c : Thread nD τ).loc cc0_stg1_0) ↦{fullShare} f : sProp 𝕄)
      ⊣⊢ iprop(own c f ∗ bigSep Finset.univ fun d : Fin 3 => bigSep Finset.univ fun o : Fin 8 => stripe c (chf (zc c) d) o fullShare f) := by
  rw [← bigSep_univ_prod (Φ := fun p : Fin 3 × Fin 8 => stripe c (chf (zc c) p.1) p.2 fullShare f)]
  unfold own stripe
  rw [show (Finset.univ : Finset (Idx ((c : Thread nD τ).loc cc0_stg1_0))) = (oC (zc c)).view.set ∪ ((Finset.univ : Finset (Fin 3 × Fin 8)).biUnion fun p => (oS (chf (zc c) p.1) p.2).view.set)
    from (cut_cover (zc c)).symm]
  have h := pointsTo_union (Ix := Unit) (Name := ℕ) (U := UU) (Lvl := ℕ) (ℓ := (c : Thread nD τ).loc cc0_stg1_0) (q := fullShare) (f := f) (cut_own (zc c))
  rw [pointsTo_biUnion _ _ (cut_disj (zc c))] at h
  exact h

/-- The stripes of a chunk from a ring place on: its own, those that come clockwise, those that come counter-clockwise. -/
def ringL (d : Fin 3) (r : Fin 8) : List (Fin 8) :=
  if d = 1 then [sh true r 0, sh true r 1, sh true r 2, sh true r 3, sh false r 1, sh false r 2, sh false r 3, sh false r 4]
  else [sh true r 0, sh true r 1, sh true r 2, sh true r 3, sh true r 4, sh false r 1, sh false r 2, sh false r 3]

omit [FloatOps F] in
/-- A product over the eight stripes of a chunk, in the order in which a ring place meets them. -/
theorem ring_cut (d : Fin 3) (r : Fin 8) (Φ : Fin 8 → sProp 𝕄) : bigSep Finset.univ Φ = bigSepL (ringL d r) Φ :=
  bigSep_univ_eq_bigSepL (ringL d r) (by revert d r; decide) (by revert d r; decide) Φ

end Cert.KernelIdeal.Coll
end
-- ==== Proof.Moves.lean ====
/-
  The movements of one device: a ring's send, arrival and send's completion, step after step; the line's sends, arrivals
  and completions.
-/
module
public import proofs.«01_k».proof.Proof.Steps
public import proofs.«01_k».proof.Proof.Contents
@[expose] public section
noncomputable section
namespace Cert.KernelIdeal.Coll
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A run of items -/

/-- `Φ j ∗ Φ (j + 1) ∗ …`, `n` of them. -/
def run (Φ : ℕ → sProp 𝕄) : ℕ → ℕ → sProp 𝕄
  | 0, _ => iprop(emp)
  | n + 1, j => iprop(Φ j ∗ run Φ n (j + 1))
/-- `Φ 0 ∗ … ∗ Φ (j - 1)`. -/
def upto (Φ : ℕ → sProp 𝕄) : ℕ → sProp 𝕄
  | 0 => iprop(emp)
  | j + 1 => iprop(upto Φ j ∗ Φ j)

/-- A run of items, and a room to send into for each, is a run of both. -/
theorem run_rrooms (c : Dev nD) (w : Bool) (d : Fin 3) (Φ : ℕ → sProp 𝕄) (n j : ℕ) :
    iprop(run Φ n j ∗ rrooms c w d n j) ⊢ run (fun j => iprop(Φ j ∗ rroom c w d j)) n j := by
  induction n generalizing j with
  | zero => unfold run rrooms; exact Laws.sep_emp.1
  | succ n ih =>
    unfold run rrooms
    iintro ⟨⟨H1, H2⟩, H3, H4⟩
    isplitl [H1 H3]; · isplitl [H1] <;> iassumption
    iapply (ih (j + 1))
    isplitl [H2] <;> iassumption

/-- A step's number among the four. -/
abbrev jf (j : ℕ) : Fin 4 := Fin.ofNat 4 j
/-- A step that a chunk takes is one of four. -/
theorem jf_val {w : Bool} {d : Fin 3} {j : ℕ} (h : j < hops w d) : (jf j).val = j := Nat.mod_eq_of_lt (h.trans_le (hops_le w d))

variable (K : Dev nD × Ce → ℕ) (c : Dev nD)

/-- A transfer of the stripe `o` of chunk `ch` to the same stripe of a peer. -/
theorem send_stripe (n : ℕ) (p : P) (hp : pl[n]? = some p) (ha : pact c p = true) {t1 : Dev nD} {t2 : Ce} (ht : ptgt c p = (t1, t2)) (kS : Ce) (r : ℕ)
    (hdS : dutC c r kS = {0}) (hdR : dutC t1 0 t2 = {0}) (hS1 : amtC kS = N) (hR1 : amtC t2 = N)
    (ch : Fin 4) (o : Fin 8) {off : Fin 2 → ℕ} (hoff : off = so ch o)
    {inb inb' : ∀ a, off a + S128x512.size a ≤ S4096x512.size a} {c' : Dev nD} (hc : c' = t1)
    {sS sR : DmaSem sig} (hS : SemLoc.dma sS = csem kS) (hR : SemLoc.dma sR = csem t2)
    {hs1 hs2} {hsc : (oM.slice (Rect.unit (s := S4096x512) off S128x512.size inb') hs2 : Memref sig .tc .vmem S128x512 .f32).view.ref.isScScratch = false} {hsrc hdst hsem}
    {q : PosShare TreeShare} (hpay₁ : payC m ρ c r 0 kS = full m ρ c ch o q)
    (hpay₂ : payC m ρ t1 0 0 t2 = full m ρ t1 ch o fullShare)
    {α : Type} {Q : α → sProp 𝕄} {kk : PUnit → Prog (TpuEff nD τ sig (Elt F) Λ₀ .tc) α} :
    HO m ρ K c n ⊢ iprop(full m ρ c ch o q -∗ room t1 ch o
      -∗ dutyTok ER (kcell (c, kS)) r 0 -∗ reached ER (kcell (c, kS)) r -∗ dutyTok ER (kcell (t1, t2)) 0 0
      -∗ (HO m ρ K c (n + 1) -∗ cred (tallyAt (kcell (c, kS)) () N)
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (oM.slice (Rect.unit (s := S4096x512) off S128x512.size inb) hs1 : Memref sig .tc .vmem S128x512 .f32)
            (.remote (c' : Thread nD τ) (oM.slice (Rect.unit (s := S4096x512) off S128x512.size inb') hs2 : Memref sig .tc .vmem S128x512 .f32) (.dma sS) hsc)
            (.dma sR) hsrc hdst hsem) kk) Q) := by
  replace hc := hc.symm
  subst hoff hc
  unfold room full stripe
  iintro HO Hsrc ⟨%fd, Hroom⟩ HtS Hr HtR Hk
  iapply (send_step m ρ K c n p hp ha ht kS r hdS hdR hS1 hR1 rfl hS hR (src := oS ch o) (dst := oS ch o) (N_oS ch o)
    (q := q) (fs := gat m ρ) (fd := fd) (Entails.of_eq (show stripe c ch o q (gat m ρ) = _ from hpay₁.symm))
    (Entails.of_eq ((landed m ρ t1 ch o fd).trans hpay₂.symm))) $$ HO Hsrc Hroom HtS Hr HtR
  iexact Hk

/-- A transfer of the staged stripe to a peer's stripe `o` of chunk `ch`. -/
theorem send_stage (n : ℕ) (p : P) (hp : pl[n]? = some p) (ha : pact c p = true) {t1 : Dev nD} {t2 : Ce} (ht : ptgt c p = (t1, t2)) (kS : Ce) (r : ℕ)
    (hdS : dutC c r kS = {0}) (hdR : dutC t1 0 t2 = {0}) (hS1 : amtC kS = N) (hR1 : amtC t2 = N)
    (ch : Fin 4) (o : Fin 8) {off : Fin 2 → ℕ} (hoff : off = so ch o)
    {inb' : ∀ a, off a + S128x512.size a ≤ S4096x512.size a} {c' : Dev nD} (hc : c' = t1)
    {sS sR : DmaSem sig} (hS : SemLoc.dma sS = csem kS) (hR : SemLoc.dma sR = csem t2)
    {hs2} {hsc : (oM.slice (Rect.unit (s := S4096x512) off S128x512.size inb') hs2 : Memref sig .tc .vmem S128x512 .f32).view.ref.isScScratch = false} {hsrc hdst hsem}
    {q : PosShare TreeShare} (hgat : stgc m ρ c = (oS ch o).view.read (Elt F) (gat m ρ)) (hpay₁ : payC m ρ c r 0 kS = stage c q (stgc m ρ c))
    (hpay₂ : payC m ρ t1 0 0 t2 = full m ρ t1 ch o fullShare)
    {α : Type} {Q : α → sProp 𝕄} {kk : PUnit → Prog (TpuEff nD τ sig (Elt F) Λ₀ .tc) α} :
    HO m ρ K c n ⊢ iprop(stage c q (stgc m ρ c) -∗ room t1 ch o
      -∗ dutyTok ER (kcell (c, kS)) r 0 -∗ reached ER (kcell (c, kS)) r -∗ dutyTok ER (kcell (t1, t2)) 0 0
      -∗ (HO m ρ K c (n + 1) -∗ cred (tallyAt (kcell (c, kS)) () N)
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma gM
            (.remote (c' : Thread nD τ) (oM.slice (Rect.unit (s := S4096x512) off S128x512.size inb') hs2 : Memref sig .tc .vmem S128x512 .f32) (.dma sS) hsc)
            (.dma sR) hsrc hdst hsem) kk) Q) := by
  replace hc := hc.symm
  subst hoff hc
  unfold room stripe stage
  iintro HO Hsrc ⟨%fd, Hroom⟩ HtS Hr HtR Hk
  iapply (send_step m ρ K c n p hp ha ht kS r hdS hdR hS1 hR1 rfl hS hR (src := gM) (dst := oS ch o) (N_oS ch o)
    (q := q) (fs := stgc m ρ c) (fd := fd) (Entails.of_eq hpay₁.symm)
    (Entails.of_eq ((show stripe t1 ch o fullShare ((oS ch o).view.write (Elt F) fd (stgc m ρ c) Finset.univ) = _ from by rw [hgat]; exact landed m ρ t1 ch o fd).trans hpay₂.symm))) $$ HO Hsrc Hroom HtS Hr HtR
  iexact Hk

section Ring
variable (w : Bool) (d : Fin 3)

/-- The tokens of step `j`'s send, and the room it lands in. -/
def rtok (j : ℕ) : sProp 𝕄 :=
  iprop(dutyTok ER (kcell (c, .rs w d)) j 0 ∗ dutyTok ER (kcell (nx w c, .rr w d (jf j))) 0 0)
def rsnd (j : ℕ) : sProp 𝕄 := iprop(rtok c w d j ∗ rroom c w d j)
/-- What step `j`'s arrival takes. -/
def rget (j : ℕ) : sProp 𝕄 :=
  iprop(atPos ER (kcell (c, .rr w d (jf j))) 0 ∅ 0 ∗ cred (tallyAt (kcell (c, .rr w d (jf j))) () N))
/-- Step `j`'s arrival cell, at rest. -/
def rzer (j : ℕ) : sProp 𝕄 := semVal (kcell (c, .rr w d (jf j))) 0

/-- Before step `j`'s send: what it sends is here, `m` sends remain. -/
def RA (j m' : ℕ) : sProp 𝕄 :=
  iprop(atPos ER (kcell (c, .rs w d)) j ∅ 0 ∗ reached ER (kcell (c, .rs w d)) j ∗ run (rsnd c w d) m' j ∗ run (rget c w d) m' j
    ∗ rsrc m ρ c w d j ∗ upto (rsrc m ρ c w d) j ∗ upto (rzer c w d) j)
/-- After step `j`'s send, before its arrival. -/
def RB (j m' : ℕ) : sProp 𝕄 :=
  iprop(atPos ER (kcell (c, .rs w d)) j ∅ 0 ∗ cred (tallyAt (kcell (c, .rs w d)) () N) ∗ run (rsnd c w d) m' (j + 1) ∗ run (rget c w d) (m' + 1) j
    ∗ upto (rsrc m ρ c w d) j ∗ upto (rzer c w d) j)
/-- After step `j`'s arrival, its send still to be waited for. -/
def RC (j m' : ℕ) : sProp 𝕄 :=
  iprop(atPos ER (kcell (c, .rs w d)) j ∅ 0 ∗ cred (tallyAt (kcell (c, .rs w d)) () N) ∗ run (rsnd c w d) m' (j + 1) ∗ run (rget c w d) m' (j + 1)
    ∗ rsrc m ρ c w d (j + 1) ∗ upto (rsrc m ρ c w d) j ∗ upto (rzer c w d) (j + 1))

/-- A ring done: all its stripes, its cells at rest. -/
def ringDone : sProp 𝕄 :=
  iprop(rsrc m ρ c w d (hops w d) ∗ upto (rsrc m ρ c w d) (hops w d) ∗ upto (rzer c w d) (hops w d) ∗ semVal (kcell (c, .rs w d)) 0)

omit [FloatOps F] in
/-- A ring send's cell has one duty in each round of the chunk's. -/
theorem dut_rs {j : ℕ} (h : j < hops w d) : dutC c j (.rs w d) = {0} := if_pos h
omit [FloatOps F] in
/-- A ring step's receive cell has one duty. -/
theorem dut_rr {j : ℕ} (h : j < hops w d) : dutC c 0 (.rr w d (jf j)) = {0} := if_pos ⟨rfl, by rw [jf_val h]; exact h⟩

omit [FloatOps F] in
/-- What the `j`-th ring send reads. -/
theorem rsrc_eq (j : ℕ) : rsrc m ρ c w d j = full m ρ c (chf (zc c) d) (sh w (rc c) j) (rq w j) := rfl
omit [FloatOps F] in
/-- What arrives at step `j` is what the next ring send reads. -/
theorem rr_pay {j : ℕ} (h : j < hops w d) : payC m ρ c 0 0 (.rr w d (jf j)) = rsrc m ρ c w d (j + 1) := by
  rw [payC_rr, rsrc_eq, jf_val h]; rfl

/-- Step `j`'s send. -/
theorem ring_send (j m' n : ℕ) (hj : j < hops w d) (hp : pl[n]? = some (.rg w d (jf j)))
    {off : Fin 2 → ℕ} (hoff : off = so (chf (zc c) d) (sh w (rc c) j))
    {inb inb' : ∀ a, off a + S128x512.size a ≤ S4096x512.size a} {c' : Dev nD} (hc : c' = nx w c)
    {sS sR : DmaSem sig} (hS : SemLoc.dma sS = csem (.rs w d)) (hR : SemLoc.dma sR = csem (.rr w d (jf j)))
    {hs1 hs2} {hsc : (oM.slice (Rect.unit (s := S4096x512) off S128x512.size inb') hs2 : Memref sig .tc .vmem S128x512 .f32).view.ref.isScScratch = false} {hsrc hdst hsem}
    {α : Type} {Q : α → sProp 𝕄} {kk : PUnit → Prog (TpuEff nD τ sig (Elt F) Λ₀ .tc) α} :
    HO m ρ K c n ⊢ iprop(RA m ρ c w d j (m' + 1)
      -∗ (HO m ρ K c (n + 1) -∗ RB m ρ c w d j m' -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (oM.slice (Rect.unit (s := S4096x512) off S128x512.size inb) hs1 : Memref sig .tc .vmem S128x512 .f32)
            (.remote (c' : Thread nD τ) (oM.slice (Rect.unit (s := S4096x512) off S128x512.size inb') hs2 : Memref sig .tc .vmem S128x512 .f32) (.dma sS) hsc)
            (.dma sR) hsrc hdst hsem) kk) Q) := by
  unfold RA
  rw [show run (rsnd (F := F) c w d) (m' + 1) j = iprop(rsnd c w d j ∗ run (rsnd c w d) m' (j + 1)) from rfl]
  iintro HO ⟨Hat, #Hr, ⟨Hs, Hsnd⟩, Hget, Hsrc, Hup, Hz⟩ Hk
  unfold rsnd rtok rroom
  icases Hs with ⟨⟨HtS, HtR⟩, Hroom⟩
  ihave Hsrc := (Entails.of_eq (rsrc_eq m ρ c w d j)) $$ Hsrc
  iapply (send_stripe m ρ K c n (.rg w d (jf j)) hp (by show decide ((jf j).val < hops w d) = true; rw [jf_val hj]; exact decide_eq_true hj) (t1 := nx w c) (t2 := .rr w d (jf j)) rfl
    (.rs w d) j (dut_rs c w d hj) (dut_rr (nx w c) w d hj) rfl rfl (chf (zc c) d) (sh w (rc c) j) hoff hc hS hR
    (q := rq w j) ((payC_rs m ρ c j 0 w d).trans (rsrc_eq m ρ c w d j)) (by
      show payC m ρ (nx w c) 0 0 (.rr w d (jf j)) = full m ρ (nx w c) _ _ _
      rw [payC_rr, zc_nx, sh_nx, jf_val hj])) $$ HO Hsrc Hroom HtS Hr HtR
  iintro HO Hc
  iapply Hk $$ HO
  unfold RB
  isplitl [Hat]; · iexact Hat
  isplitl [Hc]; · iexact Hc
  isplitl [Hsnd]; · iexact Hsnd
  isplitl [Hget]; · iexact Hget
  isplitl [Hup] <;> iassumption

/-- Step `j`'s arrival. -/
theorem ring_recv (j m' n : ℕ) (hj : j < hops w d) (hW : Waitable n c (.rr w d (jf j)))
    {s1 : DmaSem sig} (hs : SemLoc.dma s1 = csem (.rr w d (jf j)))
    {sp sp' : Space} {s s' : Shape} {e e' : EltTy} {src : Memref sig .tc sp' s' e'} {dst : Memref sig .tc sp s e} {hsrc : src.view.WordExact} {hdst : dst.view.WordExact}
    (hd : dst.view.dmaCredit = N)
    {α : Type} {Q : α → sProp 𝕄} {kk : PUnit → Prog (TpuEff nD τ sig (Elt F) Λ₀ .tc) α} :
    HO m ρ K c n ⊢ iprop(RB m ρ c w d j m'
      -∗ (HO m ρ K c n -∗ RC m ρ c w d j m' -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 s1 src dst hsrc hdst) kk) Q) := by
  unfold RB
  rw [show run (rget (F := F) c w d) (m' + 1) j = iprop(rget c w d j ∗ run (rget c w d) m' (j + 1)) from rfl]
  iintro HO ⟨Hat, Hc, Hsnd, ⟨Hg, Hget⟩, Hup, Hz⟩ Hk
  unfold rget
  icases Hg with ⟨Hga, Hgc⟩
  iapply (wait_dma m ρ K c n (.rr w d (jf j)) 0 hW (dut_rr c w d hj) rfl hs hd) $$ HO Hgc Hga
  iintro HO Hga - Hpay
  ihave #HR := (show HO m ρ K c n ⊢ records m ρ K from Laws.sep_elim_left) $$ HO
  imod (close m ρ K c (.rr w d (jf j)) (0 + 1) (fun r' hr => if_neg fun h => by omega)) $$ HR Hga with Hzj
  iapply Hk $$ HO
  unfold RC
  isplitl [Hat]; · iexact Hat
  isplitl [Hc]; · iexact Hc
  isplitl [Hsnd]; · iexact Hsnd
  isplitl [Hget]; · iexact Hget
  isplitl [Hpay]
  · iapply (Entails.of_eq (rr_pay m ρ c w d hj)); iexact Hpay
  isplitl [Hup]; · iexact Hup
  rw [show upto (rzer (F := F) c w d) (j + 1) = iprop(upto (rzer c w d) j ∗ rzer c w d j) from rfl]
  isplitl [Hz]; · iexact Hz
  unfold rzer; iexact Hzj

/-- Step `j`'s send, waited for. -/
theorem ring_wait (j m' n : ℕ) (hj : j < hops w d) {s1 : DmaSem sig} (hs : SemLoc.dma s1 = csem (.rs w d))
    {sp sp' : Space} {s s' : Shape} {e e' : EltTy} {src : Memref sig .tc sp' s' e'} {dst : Memref sig .tc sp s e} {hsrc : src.view.WordExact} {hdst : dst.view.WordExact}
    (hd : dst.view.dmaCredit = N)
    {α : Type} {Q : α → sProp 𝕄} {kk : PUnit → Prog (TpuEff nD τ sig (Elt F) Λ₀ .tc) α} :
    HO m ρ K c n ⊢ iprop(RC m ρ c w d j m'
      -∗ (HO m ρ K c n -∗ RA m ρ c w d (j + 1) m' -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 s1 src dst hsrc hdst) kk) Q) := by
  unfold RC
  iintro HO ⟨Hat, Hc, Hsnd, Hget, Hsrc, Hup, Hz⟩ Hk
  iapply (wait_dma m ρ K c n (.rs w d) j (waitable_zero rfl n) (dut_rs c w d hj) rfl hs hd) $$ HO Hc Hat
  iintro HO Hat #Hr Hpay
  iapply Hk $$ HO
  unfold RA
  isplitl [Hat]; · iexact Hat
  isplitr; · iexact Hr
  isplitl [Hsnd]; · iexact Hsnd
  isplitl [Hget]; · iexact Hget
  isplitl [Hsrc]; · iexact Hsrc
  isplitl [Hup Hpay]
  · rw [show upto (rsrc m ρ c w d) (j + 1) = iprop(upto (rsrc m ρ c w d) j ∗ rsrc m ρ c w d j) from rfl]
    isplitl [Hup]; · iexact Hup
    iapply (Entails.of_eq (payC_rs m ρ c j 0 w d)); iexact Hpay
  iexact Hz

omit [FloatOps F] in
/-- No step left: the ring's send cell closes. -/
theorem ring_done : records m ρ K ⊢ iprop(RA m ρ c w d (hops w d) 0 -∗ |={Set.univ}=> ringDone m ρ c w d) := by
  unfold RA ringDone
  iintro #HR ⟨Hat, -, -, -, Hsrc, Hup, Hz⟩
  imod (close m ρ K c (.rs w d) (hops w d) (fun r' hr => if_neg (Nat.not_lt.mpr hr))) $$ HR Hat with Hs
  imodintro
  isplitl [Hsrc]; · iexact Hsrc
  isplitl [Hup]; · iexact Hup
  isplitl [Hz] <;> iassumption

end Ring

/-! ## The line -/

section Line
variable (u : Bool) (q : Option (Fin 3))

/-- The tokens of a line send, if it is made. -/
def ztok : sProp 𝕄 :=
  if zact u q c then iprop(dutyTok ER (kcell (c, .zs (zi u q))) 0 0 ∗ dutyTok ER (kcell (zn u c, .zr (zto u q c))) 0 0) else iprop(emp)
/-- After it: its completion's credit, or, where it is not made, what it would have read. -/
def zout : sProp 𝕄 := if zact u q c then cred (tallyAt (kcell (c, .zs (zi u q))) () N) else zsrc m ρ c u q

/-- A line send that is made completes on a cell in use. -/
theorem zs_active : ∀ (c : Dev nD) (u : Bool) (q : Option (Fin 3)), zact u q c = true → zsA c (zi u q) = true := by decide +kernel
/-- The chunk that a line send carries is the one that its receiver is due. -/
theorem z_lands : ∀ (c : Dev nD) (u : Bool) (q : Option (Fin 3)), zact u q c = true → chf (zc (zn u c)) (zto u q c) = zch c q := by decide +kernel
/-- A forwarded stripe's direction is told by whether it goes up. -/
theorem zs_dir : ∀ (c : Dev nD) (u : Bool) (d : Fin 3), zact u (some d) c = true → zfA true d c = u := by decide +kernel
omit [FloatOps F] in
/-- What completes a line send is what it reads. -/
theorem zs_pay (h : zact u q c = true) : zsPay m ρ c (zi u q) = zsrc m ρ c u q := by
  match q with
  | none => cases u <;> rfl
  | some d =>
    have e : zsPay m ρ c (zi u (some d)) = zsrc m ρ c (zfA true d c) (some d) := by
      fin_cases d <;> rfl
    rw [e, zs_dir c u d h]
omit [FloatOps F] in
/-- A line send's cell has one duty. -/
theorem dut_zs (h : zact u q c = true) : dutC c 0 (.zs (zi u q)) = {0} := by
  show (if 0 = 0 ∧ zsA c (zi u q) = true then ({0} : Finset (Fin 4)) else ∅) = {0}
  rw [if_pos ⟨rfl, zs_active c u q h⟩]

/-- A line send of the device's own stripe, from the stage. -/
theorem line_own (n : ℕ) (hp : pl[n]? = some (.z u none)) {p : Prop} [Decidable p] (hpA : p ↔ zact u none c = true)
    {off : Fin 2 → ℕ} (hoff : off = so (zc c) (rc c)) {inb : p → ∀ a, off a + S128x512.size a ≤ S4096x512.size a}
    {c' : p → Dev nD} (hc : ∀ h, c' h = zn u c) {sS : DmaSem sig} {sR : p → DmaSem sig} (hS : SemLoc.dma sS = csem (.zs (zi u none)))
    (hR : ∀ h, SemLoc.dma (sR h) = csem (.zr (zto u none c)))
    {hs2 : ∀ h : p, ∀ a, (Rect.unit (s := S4096x512) off S128x512.size (inb h)).stride a = 1} {hsc : ∀ h : p, (oM.slice (Rect.unit (s := S4096x512) off S128x512.size (inb h)) (hs2 h) : Memref sig .tc .vmem S128x512 .f32).view.ref.isScScratch = false}
    {hsrc : p → gM.view.WordExact} {hdst : ∀ h : p, (oM.slice (Rect.unit (s := S4096x512) off S128x512.size (inb h)) (hs2 h) : Memref sig .tc .vmem S128x512 .f32).view.WordExact}
    {hsem : ∀ h : p, DmaTarget.Typed .vmem (.dma (sR h)) (.remote ((c' h : Dev nD) : Thread nD τ) (oM.slice (Rect.unit (s := S4096x512) off S128x512.size (inb h)) (hs2 h) : Memref sig .tc .vmem S128x512 .f32) (.dma sS) (hsc h))}
    {α : Type} {Q : α → sProp 𝕄} {kk : Prog (TpuEff nD τ sig (Elt F) Λ₀ .tc) α} :
    HO m ρ K c n ⊢ iprop(ztok c u none -∗ zroom c u none -∗ zsrc m ρ c u none
      -∗ (HO m ρ K c (n + 1) -∗ zout m ρ c u none -∗ wp frame (wpE (defs₀ (F := F)) 𝒱₀ (c : Thread nD τ) none) Set.univ kk Q)
      -∗ wp frame (wpE (defs₀ (F := F)) 𝒱₀ (c : Thread nD τ) none) Set.univ
          (if h : p then .op (.enqueueDma gM (.remote ((c' h : Dev nD) : Thread nD τ) (oM.slice (Rect.unit (s := S4096x512) off S128x512.size (inb h)) (hs2 h) : Memref sig .tc .vmem S128x512 .f32) (.dma sS) (hsc h))
            (.dma (sR h)) (hsrc h) (hdst h) (hsem h)) (fun _ => kk) else kk : Prog (TpuEff nD τ sig (Elt F) Λ₀ .tc) α) Q) := by
  subst hoff
  unfold ztok zroom zout
  by_cases h : p
  · have ha := hpA.mp h
    rw [if_pos ha, if_pos ha, if_pos ha, dif_pos h]
    iintro HO ⟨HtS, HtR⟩ Hroom Hsrc Hk
    ihave Hroom := (show room (zn u c) (zch c none) (rc c) ⊢ room (F := F) (zn u c) (zc c) (rc c) from BI.Entails.refl _) $$ Hroom
    ihave Hsrc := (show zsrc m ρ c u none ⊢ stage c (zq u none) (stgc m ρ c) from BI.Entails.refl _) $$ Hsrc
    ihave #HR := (show HO m ρ K c n ⊢ records m ρ K from Laws.sep_elim_left) $$ HO
    iapply (send_stage m ρ K c n (.z u none) hp ha (t1 := zn u c) (t2 := .zr (zto u none c)) rfl (.zs (zi u none)) 0 (dut_zs c u none ha) rfl rfl rfl (zc c) (rc c) rfl (hc h) hS (hR h)
      (q := zq u none) rfl ((payC_zs m ρ c 0 0 _).trans (zs_pay m ρ c u none ha)) (by
        rw [payC_zr, z_lands c u none ha, rc_zn]; rfl)) $$ HO Hsrc Hroom HtS [] HtR
    · iapply (reached_at m ρ K (c, .zs (zi u none))); iexact HR
    iintro HO Hc
    iapply Hk $$ HO Hc
  · have ha : ¬ zact u none c = true := fun e => h (hpA.mpr e)
    rw [if_neg ha, if_neg ha, if_neg ha, dif_neg h, HO_skip m ρ K c n _ hp ha]
    iintro HO - - Hsrc Hk
    iapply Hk $$ HO Hsrc

/-- A line send of the `d`-th chunk's stripe, forwarded. -/
theorem line_fwd (d : Fin 3) (n : ℕ) (hp : pl[n]? = some (.z u (some d))) {p : Prop} [Decidable p] (hpA : p ↔ zact u (some d) c = true)
    {off : Fin 2 → ℕ} (hoff : p → off = so (chf (zc c) d) (rc c)) {inb inb' : p → ∀ a, off a + S128x512.size a ≤ S4096x512.size a}
    {c' : p → Dev nD} (hc : ∀ h, c' h = zn u c) {sS : DmaSem sig} {sR : p → DmaSem sig} (hS : SemLoc.dma sS = csem (.zs (zi u (some d))))
    (hR : ∀ h, SemLoc.dma (sR h) = csem (.zr (zto u (some d) c)))
    {hs1 : ∀ h : p, ∀ a, (Rect.unit (s := S4096x512) off S128x512.size (inb h)).stride a = 1}
    {hs2 : ∀ h : p, ∀ a, (Rect.unit (s := S4096x512) off S128x512.size (inb' h)).stride a = 1} {hsc : ∀ h : p, (oM.slice (Rect.unit (s := S4096x512) off S128x512.size (inb' h)) (hs2 h) : Memref sig .tc .vmem S128x512 .f32).view.ref.isScScratch = false}
    {hsrc : ∀ h : p, (oM.slice (Rect.unit (s := S4096x512) off S128x512.size (inb h)) (hs1 h) : Memref sig .tc .vmem S128x512 .f32).view.WordExact}
    {hdst : ∀ h : p, (oM.slice (Rect.unit (s := S4096x512) off S128x512.size (inb' h)) (hs2 h) : Memref sig .tc .vmem S128x512 .f32).view.WordExact}
    {hsem : ∀ h : p, DmaTarget.Typed .vmem (.dma (sR h)) (.remote ((c' h : Dev nD) : Thread nD τ) (oM.slice (Rect.unit (s := S4096x512) off S128x512.size (inb' h)) (hs2 h) : Memref sig .tc .vmem S128x512 .f32) (.dma sS) (hsc h))}
    {α : Type} {Q : α → sProp 𝕄} {kk : Prog (TpuEff nD τ sig (Elt F) Λ₀ .tc) α} :
    HO m ρ K c n ⊢ iprop(ztok c u (some d) -∗ zroom c u (some d) -∗ zsrc m ρ c u (some d)
      -∗ (HO m ρ K c (n + 1) -∗ zout m ρ c u (some d) -∗ wp frame (wpE (defs₀ (F := F)) 𝒱₀ (c : Thread nD τ) none) Set.univ kk Q)
      -∗ wp frame (wpE (defs₀ (F := F)) 𝒱₀ (c : Thread nD τ) none) Set.univ
          (if h : p then .op (.enqueueDma (oM.slice (Rect.unit (s := S4096x512) off S128x512.size (inb h)) (hs1 h) : Memref sig .tc .vmem S128x512 .f32)
            (.remote ((c' h : Dev nD) : Thread nD τ) (oM.slice (Rect.unit (s := S4096x512) off S128x512.size (inb' h)) (hs2 h) : Memref sig .tc .vmem S128x512 .f32) (.dma sS) (hsc h))
            (.dma (sR h)) (hsrc h) (hdst h) (hsem h)) (fun _ => kk) else kk : Prog (TpuEff nD τ sig (Elt F) Λ₀ .tc) α) Q) := by
  unfold ztok zroom zout
  by_cases h : p
  · have ha := hpA.mp h
    rw [if_pos ha, if_pos ha, if_pos ha, dif_pos h]
    iintro HO ⟨HtS, HtR⟩ Hroom Hsrc Hk
    ihave Hroom := (show room (zn u c) (zch c (some d)) (rc c) ⊢ room (F := F) (zn u c) (chf (zc c) d) (rc c) from BI.Entails.refl _) $$ Hroom
    ihave Hsrc := (show zsrc m ρ c u (some d) ⊢ full m ρ c (chf (zc c) d) (rc c) (zq u (some d)) from BI.Entails.refl _) $$ Hsrc
    ihave #HR := (show HO m ρ K c n ⊢ records m ρ K from Laws.sep_elim_left) $$ HO
    iapply (send_stripe m ρ K c n (.z u (some d)) hp ha (t1 := zn u c) (t2 := .zr (zto u (some d) c)) rfl (.zs (zi u (some d))) 0 (dut_zs c u (some d) ha) rfl rfl rfl (chf (zc c) d) (rc c) (hoff h) (hc h) hS (hR h)
      (q := zq u (some d)) ((payC_zs m ρ c 0 0 _).trans (zs_pay m ρ c u (some d) ha)) (by
        show payC m ρ (zn u c) 0 0 (.zr (zto u (some d) c)) = full m ρ (zn u c) _ _ _
        rw [payC_zr, z_lands c u (some d) ha, rc_zn]; rfl)) $$ HO Hsrc Hroom HtS [] HtR
    · iapply (reached_at m ρ K (c, .zs (zi u (some d)))); iexact HR
    iintro HO Hc
    iapply Hk $$ HO Hc
  · have ha : ¬ zact u (some d) c = true := fun e => h (hpA.mpr e)
    rw [if_neg ha, if_neg ha, if_neg ha, dif_neg h, HO_skip m ρ K c n _ hp ha]
    iintro HO - - Hsrc Hk
    iapply Hk $$ HO Hsrc

/-- The `d`-th chunk's stripe comes along the line. -/
theorem line_recv (d : Fin 3) (n : ℕ) (hW : Waitable n c (.zr d)) {s1 : DmaSem sig} (hs : SemLoc.dma s1 = csem (.zr d))
    {sp sp' : Space} {s s' : Shape} {e e' : EltTy} {src : Memref sig .tc sp' s' e'} {dst : Memref sig .tc sp s e} {hsrc : src.view.WordExact} {hdst : dst.view.WordExact}
    (hd : dst.view.dmaCredit = N)
    {α : Type} {Q : α → sProp 𝕄} {kk : PUnit → Prog (TpuEff nD τ sig (Elt F) Λ₀ .tc) α} :
    HO m ρ K c n ⊢ iprop(atPos ER (kcell (c, .zr d)) 0 ∅ 0 -∗ cred (tallyAt (kcell (c, .zr d)) () N)
      -∗ (HO m ρ K c n -∗ zsrc m ρ c true (some d) -∗ zsrc m ρ c false (some d) -∗ rsrc m ρ c true d 0 -∗ rsrc m ρ c false d 0
          -∗ semVal (kcell (c, .zr d)) 0 -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 s1 src dst hsrc hdst) kk) Q) := by
  iintro HO Hat Hc Hk
  iapply (wait_dma m ρ K c n (.zr d) 0 hW rfl rfl hs hd) $$ HO Hc Hat
  iintro HO Hat - Hpay
  ihave #HR := (show HO m ρ K c n ⊢ records m ρ K from Laws.sep_elim_left) $$ HO
  imod (close m ρ K c (.zr d) (0 + 1) (fun r' hr => if_neg fun h => by omega)) $$ HR Hat with Hz
  icases ((Entails.of_eq (payC_zr m ρ c 0 0 d)).trans (lend m ρ c d)) $$ Hpay with ⟨⟨H1, H2⟩, H3, H4⟩
  iapply Hk $$ HO H1 H2 H3 H4 Hz

/-- A completion waited for under a condition. -/
theorem line_wait (i : Fin 5) (n : ℕ) {p : Prop} [Decidable p] (hpA : p ↔ zsA c i = true) {s1 : DmaSem sig} (hs : SemLoc.dma s1 = csem (.zs i))
    {sp sp' : Space} {s s' : Shape} {e e' : EltTy} {src : p → Memref sig .tc sp' s' e'} {dst : p → Memref sig .tc sp s e}
    {hsrc : ∀ h, (src h).view.WordExact} {hdst : ∀ h, (dst h).view.WordExact} (hd : ∀ h, (dst h).view.dmaCredit = N)
    (R : sProp 𝕄) {α : Type} {Q : α → sProp 𝕄} {kk : Prog (TpuEff nD τ sig (Elt F) Λ₀ .tc) α} :
    HO m ρ K c n ⊢ iprop(atPos ER (kcell (c, .zs i)) 0 ∅ 0
      -∗ (if zsA c i then iprop(cred (tallyAt (kcell (c, .zs i)) () N) ∗ (zsPay m ρ c i -∗ R)) else R)
      -∗ (HO m ρ K c n -∗ R -∗ semVal (kcell (c, .zs i)) 0 -∗ wp frame (wpE (defs₀ (F := F)) 𝒱₀ (c : Thread nD τ) none) Set.univ kk Q)
      -∗ wp frame (wpE (defs₀ (F := F)) 𝒱₀ (c : Thread nD τ) none) Set.univ
          (if h : p then .op (.waitDma2 s1 (src h) (dst h) (hsrc h) (hdst h)) (fun _ => kk) else kk : Prog (TpuEff nD τ sig (Elt F) Λ₀ .tc) α) Q) := by
  by_cases h : p
  · have ha := hpA.mp h
    rw [if_pos ha, dif_pos h]
    iintro HO Hat ⟨Hc, Hw⟩ Hk
    iapply (wait_dma m ρ K c n (.zs i) 0 (waitable_zero rfl n) (by
      show (if 0 = 0 ∧ zsA c i = true then ({0} : Finset (Fin 4)) else ∅) = {0}
      rw [if_pos ⟨rfl, ha⟩]) rfl hs (hd h)) $$ HO Hc Hat
    iintro HO Hat - Hpay
    ihave #HR := (show HO m ρ K c n ⊢ records m ρ K from Laws.sep_elim_left) $$ HO
    imod (close m ρ K c (.zs i) (0 + 1) (fun r' hr => if_neg fun h => by omega)) $$ HR Hat with Hz
    iapply Hk $$ HO [Hw Hpay] Hz
    iapply Hw
    iapply (Entails.of_eq (payC_zs m ρ c 0 0 i)); iexact Hpay
  · have ha : ¬ zsA c i = true := fun e => h (hpA.mpr e)
    rw [if_neg ha, dif_neg h]
    iintro HO Hat Hw Hk
    ihave #HR := (show HO m ρ K c n ⊢ records m ρ K from Laws.sep_elim_left) $$ HO
    imod (close m ρ K c (.zs i) 0 (fun r' hr => if_neg fun h => ha h.2)) $$ HR Hat with Hz
    iapply Hk $$ HO Hw Hz

omit [FloatOps F] in
/-- What the own stripe's completion wait takes. -/
theorem own_out : zout m ρ c u none ⊢ (if zsA c (zi u none) then iprop(cred (tallyAt (kcell (c, .zs (zi u none))) () N) ∗ (zsPay m ρ c (zi u none) -∗ zsrc m ρ c u none))
    else zsrc m ρ c u none : sProp 𝕄) := by
  have e : zsA c (zi u none) = zact u none c := by cases u <;> rfl
  unfold zout
  by_cases h : zact u none c = true
  · rw [e, if_pos h, if_pos h, zs_pay m ρ c u none h]
    iintro Hc
    isplitl [Hc]; · iexact Hc
    iintro H; iexact H
  · rw [e, if_neg h, if_neg h]

/-- A forwarding cell is in use where the stripe is forwarded either way. -/
theorem zs_some : ∀ (c : Dev nD) (d : Fin 3), zsA c (zi true (some d)) = (zact true (some d) c || zact false (some d) c) := by decide +kernel
/-- No stripe is forwarded both ways. -/
theorem zs_one : ∀ (c : Dev nD) (d : Fin 3), ¬ (zact true (some d) c = true ∧ zact false (some d) c = true) := by decide +kernel

omit [FloatOps F] in
/-- What a forwarded chunk's completion wait takes: one way or the other was sent, not both. -/
theorem fwd_out (d : Fin 3) : iprop(zout m ρ c true (some d) ∗ zout m ρ c false (some d))
    ⊢ (if zsA c (zi true (some d)) then iprop(cred (tallyAt (kcell (c, .zs (zi true (some d)))) () N) ∗ (zsPay m ρ c (zi true (some d)) -∗ zsrc m ρ c true (some d) ∗ zsrc m ρ c false (some d)))
    else iprop(zsrc m ρ c true (some d) ∗ zsrc m ρ c false (some d)) : sProp 𝕄) := by
  have h1 := zs_one c d
  unfold zout
  rw [zs_some]
  by_cases ht : zact true (some d) c = true
  · have hf : ¬ zact false (some d) c = true := fun e => h1 ⟨ht, e⟩
    rw [if_pos ht, if_neg hf, if_pos (by rw [ht]; rfl), zs_pay m ρ c true (some d) ht]
    iintro ⟨Hc, Hs⟩
    isplitl [Hc]; · iexact Hc
    iintro H
    isplitl [H] <;> iassumption
  · by_cases hf : zact false (some d) c = true
    · rw [if_neg ht, if_pos hf, if_pos (by rw [hf, Bool.or_true]), show zi true (some d) = zi false (some d) from rfl, zs_pay m ρ c false (some d) hf]
      iintro ⟨Hs, Hc⟩
      isplitl [Hc]; · iexact Hc
      iintro H
      isplitl [Hs] <;> iassumption
    · rw [if_neg ht, if_neg hf, if_neg (by rw [Bool.or_eq_true]; exact not_or.mpr ⟨ht, hf⟩)]

end Line
end Cert.KernelIdeal.Coll
end
-- ==== Proof.Rooms.lean ====
/-
  The rooms a device hands its neighbours at the barrier, out of its result array; and the array put together again once
  everything has come in.
-/
module
public import proofs.«01_k».proof.Proof.Moves
@[expose] public section
noncomputable section
namespace Cert.KernelIdeal.Coll
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ring's part of a chunk -/

omit [FloatOps F] in
/-- Eight items, grouped as the first, four that come in one way and three the other. -/
theorem eight43 (a0 a1 a2 a3 a4 a5 a6 a7 : sProp 𝕄) : iprop(a0 ∗ a1 ∗ a2 ∗ a3 ∗ a4 ∗ a5 ∗ a6 ∗ a7)
    ⊣⊢ iprop(a0 ∗ (a1 ∗ a2 ∗ a3 ∗ a4 ∗ emp) ∗ a5 ∗ a6 ∗ a7 ∗ emp) := by
  constructor
  · iintro ⟨H0, H1, H2, H3, H4, H5, H6, H7⟩
    isplitl [H0]; · iexact H0
    isplitl [H1 H2 H3 H4]
    · isplitl [H1]; · iexact H1
      isplitl [H2]; · iexact H2
      isplitl [H3]; · iexact H3
      isplitl [H4]; · iexact H4
      iempintro
    isplitl [H5]; · iexact H5
    isplitl [H6]; · iexact H6
    isplitl [H7]; · iexact H7
    iempintro
  · iintro ⟨H0, ⟨H1, H2, H3, H4, -⟩, H5, H6, H7, -⟩
    isplitl [H0]; · iexact H0
    isplitl [H1]; · iexact H1
    isplitl [H2]; · iexact H2
    isplitl [H3]; · iexact H3
    isplitl [H4]; · iexact H4
    isplitl [H5]; · iexact H5
    isplitl [H6] <;> iassumption

omit [FloatOps F] in
/-- Eight items, grouped as the first, three that come in one way and four the other. -/
theorem eight34 (a0 a1 a2 a3 a4 a5 a6 a7 : sProp 𝕄) : iprop(a0 ∗ a1 ∗ a2 ∗ a3 ∗ a4 ∗ a5 ∗ a6 ∗ a7)
    ⊣⊢ iprop(a0 ∗ (a1 ∗ a2 ∗ a3 ∗ emp) ∗ a4 ∗ a5 ∗ a6 ∗ a7 ∗ emp) := by
  constructor
  · iintro ⟨H0, H1, H2, H3, H4, H5, H6, H7⟩
    isplitl [H0]; · iexact H0
    isplitl [H1 H2 H3]
    · isplitl [H1]; · iexact H1
      isplitl [H2]; · iexact H2
      isplitl [H3]; · iexact H3
      iempintro
    isplitl [H4]; · iexact H4
    isplitl [H5]; · iexact H5
    isplitl [H6]; · iexact H6
    isplitl [H7]; · iexact H7
    iempintro
  · iintro ⟨H0, ⟨H1, H2, H3, -⟩, H4, H5, H6, H7, -⟩
    isplitl [H0]; · iexact H0
    isplitl [H1]; · iexact H1
    isplitl [H2]; · iexact H2
    isplitl [H3]; · iexact H3
    isplitl [H4]; · iexact H4
    isplitl [H5]; · iexact H5
    isplitl [H6] <;> iassumption

omit [FloatOps F] in
/-- A chunk's eight stripes: the device's own, those that come clockwise, those that come counter-clockwise. -/
theorem ring_split (d : Fin 3) (r : Fin 8) (Φ : Fin 8 → sProp 𝕄) :
    bigSep Finset.univ Φ ⊣⊢ iprop(Φ r ∗ run (fun j => Φ (sh true r (j + 1))) (hops true d) 0 ∗ run (fun j => Φ (sh false r (j + 1))) (hops false d) 0) := by
  rw [ring_cut d r Φ]
  have e : Φ r = Φ (sh true r 0) := by rw [sh_zero]
  rw [e]
  fin_cases d
  · exact eight43 (Φ (sh true r 0)) (Φ (sh true r 1)) (Φ (sh true r 2)) (Φ (sh true r 3)) (Φ (sh true r 4)) (Φ (sh false r 1)) (Φ (sh false r 2)) (Φ (sh false r 3))
  · exact eight34 (Φ (sh true r 0)) (Φ (sh true r 1)) (Φ (sh true r 2)) (Φ (sh true r 3)) (Φ (sh false r 1)) (Φ (sh false r 2)) (Φ (sh false r 3)) (Φ (sh false r 4))
  · exact eight43 (Φ (sh true r 0)) (Φ (sh true r 1)) (Φ (sh true r 2)) (Φ (sh true r 3)) (Φ (sh true r 4)) (Φ (sh false r 1)) (Φ (sh false r 2)) (Φ (sh false r 3))

/-- A neighbour's step is one further from here. -/
theorem sh_back : ∀ (w : Bool) (c : Dev nD) (j : Fin 4), sh w (rc (nx (!w) c)) j.val = sh w (rc c) (j.val + 1) := by decide +kernel

variable (c : Dev nD)

omit [FloatOps F] in
/-- The room a ring neighbour's step `j` lands in is here. -/
theorem rroom_back (w : Bool) (d : Fin 3) (j : ℕ) (hj : j < 4) :
    rroom (F := F) (nx (!w) c) w d j = room c (chf (zc c) d) (sh w (rc c) (j + 1)) := by
  unfold rroom
  rw [zc_nx, show nx w (nx (!w) c) = c by have h := nx_nx (!w) c; rwa [Bool.not_not] at h, sh_back w c ⟨j, hj⟩]

omit [FloatOps F] in
/-- The rooms that a device's ring neighbour sends into are the device's own stripes. -/
theorem rrooms_back (w : Bool) (d : Fin 3) (n j : ℕ) (hj : j + n ≤ 4) :
    rrooms (F := F) (nx (!w) c) w d n j = run (fun j => room c (chf (zc c) d) (sh w (rc c) (j + 1))) n j := by
  induction n generalizing j with
  | zero => rfl
  | succ n ih => unfold rrooms run; rw [rroom_back c w d j (by omega), ih (j + 1) (by omega)]

/-! ## The line's part -/

/-- Which of the device's chunks its line neighbour's send `q` lands in, if that is made. -/
def zin (u : Bool) (q : Option (Fin 3)) (z : Fin 4) : Option (Fin 3) :=
  if zact (!u) q (zn u (mk 0 z)) then some (zto (!u) q (zn u (mk 0 z))) else none

/-- A device is sent to along the line where it expects a chunk. -/
theorem zin_act : ∀ (u : Bool) (q : Option (Fin 3)) (c : Dev nD), zact (!u) q (zn u c) = (zin u q (zc c)).isSome := by decide +kernel
/-- The chunk that is sent is the one expected. -/
theorem zin_ch : ∀ (u : Bool) (q : Option (Fin 3)) (c : Dev nD) (d : Fin 3), zin u q (zc c) = some d → zch (zn u c) q = chf (zc c) d := by decide +kernel

omit [FloatOps F] in
/-- The room a line neighbour's send lands in is here. -/
theorem zroom_back (u : Bool) (q : Option (Fin 3)) :
    zroom (F := F) (zn u c) (!u) q = match zin u q (zc c) with | some d => room c (chf (zc c) d) (rc c) | none => iprop(emp) := by
  unfold zroom
  rw [zin_act, show zn (!u) (zn u c) = c from zn_zn u c, rc_zn]
  cases h : zin u q (zc c) with
  | none => rfl
  | some d => rw [zin_ch u q c d h]; rfl

/-- What two line neighbours may land in, of what is said of each chunk. -/
def zins (Ψ : Fin 3 → sProp 𝕄) (u : Bool) (q : Option (Fin 3)) (z : Fin 4) : sProp 𝕄 := match zin u q z with | some d => Ψ d | none => iprop(emp)

omit [FloatOps F] in
/-- The items of the three chunks, by the line send that brings each. -/
theorem line_split (Ψ : Fin 3 → sProp 𝕄) (z : Fin 4) : iprop(Ψ 0 ∗ Ψ 1 ∗ Ψ 2)
    ⊢ iprop((zins Ψ true none z ∗ zins Ψ true (some 0) z ∗ zins Ψ true (some 1) z ∗ zins Ψ true (some 2) z)
      ∗ (zins Ψ false none z ∗ zins Ψ false (some 0) z ∗ zins Ψ false (some 1) z ∗ zins Ψ false (some 2) z)) := by
  fin_cases z
  · show _ ⊢ iprop((Ψ 0 ∗ emp ∗ Ψ 1 ∗ Ψ 2) ∗ (emp ∗ emp ∗ emp ∗ emp))
    iintro ⟨H0, H1, H2⟩
    isplitl
    · isplitl [H0]; · iexact H0
      isplitr; · iempintro
      isplitl [H1] <;> iassumption
    · (repeat' isplitr) <;> iempintro
  · show _ ⊢ iprop((Ψ 1 ∗ emp ∗ Ψ 2 ∗ emp) ∗ (Ψ 0 ∗ emp ∗ emp ∗ emp))
    iintro ⟨H0, H1, H2⟩
    isplitl [H1 H2]
    · isplitl [H1]; · iexact H1
      isplitr; · iempintro
      isplitl [H2]; · iexact H2
      iempintro
    · isplitl [H0]; · iexact H0
      (repeat' isplitr) <;> iempintro
  · show _ ⊢ iprop((Ψ 1 ∗ emp ∗ emp ∗ emp) ∗ (Ψ 0 ∗ Ψ 2 ∗ emp ∗ emp))
    iintro ⟨H0, H1, H2⟩
    isplitl [H1]
    · isplitl [H1]; · iexact H1
      (repeat' isplitr) <;> iempintro
    · isplitl [H0]; · iexact H0
      isplitl [H2]; · iexact H2
      isplitr <;> iempintro
  · show _ ⊢ iprop((emp ∗ emp ∗ emp ∗ emp) ∗ (Ψ 0 ∗ Ψ 1 ∗ emp ∗ Ψ 2))
    iintro ⟨H0, H1, H2⟩
    isplitr
    · (repeat' isplitr) <;> iempintro
    · isplitl [H0]; · iexact H0
      isplitl [H1]; · iexact H1
      isplitr; · iempintro
      iexact H2

/-! ## Handing out, and putting together -/

omit [FloatOps F] in
/-- A stripe at any contents is a room. -/
theorem stripe_room (ch : Fin 4) (o : Fin 8) (f) : stripe (F := F) c ch o fullShare f ⊢ room c ch o := by
  unfold room; iintro H; iexists f; iexact H

omit [FloatOps F] in
/-- The room in the array, handed to the four neighbours. -/
theorem rooms (f : Buf (Elt F) ((c : Thread nD τ).loc cc0_stg1_0)) :
    (bigSep Finset.univ fun d : Fin 3 => bigSep Finset.univ fun o : Fin 8 => stripe (F := F) c (chf (zc c) d) o fullShare f)
      ⊢ iprop(barPay (nx true c) 0 ∗ barPay (nx false c) 1 ∗ barPay (zn true c) 2 ∗ barPay (zn false c) 3) := by
  refine (bigSep_mono (Ψ := fun d : Fin 3 => iprop(room c (chf (zc c) d) (rc c)
    ∗ rrooms (nx false c) true d (hops true d) 0 ∗ rrooms (nx true c) false d (hops false d) 0)) fun d _ => ?_).trans ?_
  · have e1 := rrooms_back (F := F) c true d (hops true d) 0 (by rw [Nat.zero_add]; exact hops_le true d)
    have e2 := rrooms_back (F := F) c false d (hops false d) 0 (by rw [Nat.zero_add]; exact hops_le false d)
    rw [Bool.not_true] at e1; rw [Bool.not_false] at e2
    rw [e1, e2]
    refine BI.Entails.trans ?_ (ring_split d (rc c) (fun o => room c (chf (zc c) d) o)).1
    exact bigSep_mono fun o _ => stripe_room c (chf (zc c) d) o f
  · rw [bigSep_univ_eq_bigSepL [0, 1, 2] (by decide) (by decide)]
    simp only [bigSepL_cons_cons, bigSepL_singleton]
    rw [show barPay (F := F) (zn true c) 2 = iprop(zins (fun d => room c (chf (zc c) d) (rc c)) true none (zc c) ∗ zins (fun d => room c (chf (zc c) d) (rc c)) true (some 0) (zc c)
        ∗ zins (fun d => room c (chf (zc c) d) (rc c)) true (some 1) (zc c) ∗ zins (fun d => room c (chf (zc c) d) (rc c)) true (some 2) (zc c)) by
        have h := zroom_back (F := F) c true; rw [Bool.not_true] at h
        unfold barPay; simp only [h]; rfl,
      show barPay (F := F) (zn false c) 3 = iprop(zins (fun d => room c (chf (zc c) d) (rc c)) false none (zc c) ∗ zins (fun d => room c (chf (zc c) d) (rc c)) false (some 0) (zc c)
        ∗ zins (fun d => room c (chf (zc c) d) (rc c)) false (some 1) (zc c) ∗ zins (fun d => room c (chf (zc c) d) (rc c)) false (some 2) (zc c)) by
        have h := zroom_back (F := F) c false; rw [Bool.not_false] at h
        unfold barPay; simp only [h]; rfl]
    refine (show iprop((room c (chf (zc c) 0) (rc c) ∗ rrooms (nx false c) true 0 (hops true 0) 0 ∗ rrooms (nx true c) false 0 (hops false 0) 0)
      ∗ (room c (chf (zc c) 1) (rc c) ∗ rrooms (nx false c) true 1 (hops true 1) 0 ∗ rrooms (nx true c) false 1 (hops false 1) 0)
      ∗ (room c (chf (zc c) 2) (rc c) ∗ rrooms (nx false c) true 2 (hops true 2) 0 ∗ rrooms (nx true c) false 2 (hops false 2) 0)) ⊢ (_ : sProp 𝕄) from ?_)
    iintro ⟨⟨Z0, T0, F0⟩, ⟨Z1, T1, F1⟩, Z2, T2, F2⟩
    isplitl [F0 F1 F2]
    · unfold barPay
      isplitl [F0]; · iexact F0
      isplitl [F1] <;> iassumption
    isplitl [T0 T1 T2]
    · unfold barPay
      isplitl [T0]; · iexact T0
      isplitl [T1] <;> iassumption
    iapply (line_split (fun d => room (F := F) c (chf (zc c) d) (rc c)) (zc c))
    isplitl [Z0]; · iexact Z0
    isplitl [Z1] <;> iassumption

/-- A ring's stripes, all in. -/
def ringAll (w : Bool) (d : Fin 3) : sProp 𝕄 := iprop(rsrc m ρ c w d (hops w d) ∗ upto (rsrc m ρ c w d) (hops w d))

omit [FloatOps F] in
/-- All that a ring direction brought, as the device's own stripe and a run of those that came in. -/
theorem upto_run (w : Bool) (d : Fin 3) : ringAll m ρ c w d
    ⊢ iprop(rsrc m ρ c w d 0 ∗ run (fun j => full m ρ c (chf (zc c) d) (sh w (rc c) (j + 1)) fullShare) (hops w d) 0) := by
  unfold ringAll
  have h : hops w d = 3 ∨ hops w d = 4 := by revert w d; decide
  rcases h with h | h <;> rw [h]
  · show iprop(rsrc m ρ c w d 3 ∗ ((emp ∗ rsrc m ρ c w d 0) ∗ rsrc m ρ c w d 1) ∗ rsrc m ρ c w d 2)
      ⊢ iprop(rsrc m ρ c w d 0 ∗ rsrc m ρ c w d 1 ∗ rsrc m ρ c w d 2 ∗ rsrc m ρ c w d 3 ∗ emp)
    iintro ⟨H3, ⟨⟨-, H0⟩, H1⟩, H2⟩
    isplitl [H0]; · iexact H0
    isplitl [H1]; · iexact H1
    isplitl [H2]; · iexact H2
    isplitl [H3]; · iexact H3
    iempintro
  · show iprop(rsrc m ρ c w d 4 ∗ (((emp ∗ rsrc m ρ c w d 0) ∗ rsrc m ρ c w d 1) ∗ rsrc m ρ c w d 2) ∗ rsrc m ρ c w d 3)
      ⊢ iprop(rsrc m ρ c w d 0 ∗ rsrc m ρ c w d 1 ∗ rsrc m ρ c w d 2 ∗ rsrc m ρ c w d 3 ∗ rsrc m ρ c w d 4 ∗ emp)
    iintro ⟨H4, ⟨⟨⟨-, H0⟩, H1⟩, H2⟩, H3⟩
    isplitl [H0]; · iexact H0
    isplitl [H1]; · iexact H1
    isplitl [H2]; · iexact H2
    isplitl [H3]; · iexact H3
    isplitl [H4]; · iexact H4
    iempintro

omit [FloatOps F] in
/-- What travels is what the device ends with, outside its own chunk. -/
theorem full_fin (d : Fin 3) (o : Fin 8) : full m ρ c (chf (zc c) d) o fullShare = stripe c (chf (zc c) d) o fullShare (fin m ρ c) := by
  unfold full stripe
  refine pointsTo_congr fun i hi => ?_
  have h8 := o.isLt
  have h := (mem_oS (chf (zc c) d) o i).mp hi
  unfold fin
  rw [if_neg]
  intro e
  exact chf_ne (zc c) d (Fin.ext (by omega))

/-- Everything of the `d`-th chunk, back from its transfers. -/
def chunkAll (d : Fin 3) : sProp 𝕄 :=
  iprop((zsrc m ρ c true (some d) ∗ zsrc m ρ c false (some d)) ∗ ringAll m ρ c true d ∗ ringAll m ρ c false d)

omit [FloatOps F] in
/-- All that a chunk's two ring directions hold makes up the chunk, at its final contents. -/
theorem chunk_join (d : Fin 3) : chunkAll m ρ c d ⊢ bigSep Finset.univ fun o : Fin 8 => stripe c (chf (zc c) d) o fullShare (fin m ρ c) := by
  unfold chunkAll
  simp only [← full_fin]
  iintro ⟨Hz, HT, HF⟩
  icases (upto_run m ρ c true d) $$ HT with ⟨HT0, HT⟩
  icases (upto_run m ρ c false d) $$ HF with ⟨HF0, HF⟩
  iapply (ring_split d (rc c) (fun o => full m ρ c (chf (zc c) d) o fullShare)).2
  isplitl [Hz HT0 HF0]
  · iapply (unlend m ρ c d)
    isplitl [Hz]; · iexact Hz
    isplitl [HT0] <;> iassumption
  isplitl [HT] <;> iassumption

omit [FloatOps F] in
/-- The array, whole, as the device ends with it. -/
theorem gathered : iprop(own c (fin m ρ c) ∗ chunkAll m ρ c 0 ∗ chunkAll m ρ c 1 ∗ chunkAll m ρ c 2)
    ⊢ (((c : Thread nD τ).loc cc0_stg1_0) ↦{fullShare} fin m ρ c : sProp 𝕄) := by
  refine BI.Entails.trans (BI.sep_mono (BI.Entails.refl _) ?_) (cut c (fin m ρ c)).2
  rw [bigSep_univ_eq_bigSepL [0, 1, 2] (by decide) (by decide)]
  simp only [bigSepL_cons_cons, bigSepL_singleton]
  exact BI.sep_mono (chunk_join m ρ c 0) (BI.sep_mono (chunk_join m ρ c 1) (chunk_join m ρ c 2))

end Cert.KernelIdeal.Coll
end
-- ==== Proof.Kit.lean ====
/-
  What a device starts its run with and ends it with, and its rings begun and done.
-/
module
public import proofs.«01_k».proof.Proof.Rooms
@[expose] public section
noncomputable section
namespace Cert.KernelIdeal.Coll
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Ce → ℕ) (c : Dev nD)

/-- The cell `k`'s place at its first round. -/
abbrev at0 (k : Ce) : sProp 𝕄 := atPos ER (kcell (c, k)) 0 ∅ 0

/-- What the barrier takes: its place, its credit, the tokens of the four signals. -/
def barKit : sProp 𝕄 :=
  iprop(at0 c .bar ∗ cred (tallyAt (kcell (c, .bar)) () 4)
    ∗ dutyTok ER (kcell (nb 0 c, .bar)) 0 0 ∗ dutyTok ER (kcell (nb 1 c, .bar)) 0 1 ∗ dutyTok ER (kcell (nb 2 c, .bar)) 0 2 ∗ dutyTok ER (kcell (nb 3 c, .bar)) 0 3)
/-- The exit's likewise. -/
def exKit : sProp 𝕄 :=
  iprop(at0 c .ex ∗ cred (tallyAt (kcell (c, .ex)) () 4)
    ∗ dutyTok ER (kcell (nb 0 c, .ex)) 0 0 ∗ dutyTok ER (kcell (nb 1 c, .ex)) 0 1 ∗ dutyTok ER (kcell (nb 2 c, .ex)) 0 2 ∗ dutyTok ER (kcell (nb 3 c, .ex)) 0 3)
/-- What the `d`-th chunk's arrival along the line and its forwarding take. -/
def linKit (d : Fin 3) : sProp 𝕄 :=
  iprop(at0 c (.zr d) ∗ cred (tallyAt (kcell (c, .zr d)) () N) ∗ ztok c true (some d) ∗ ztok c false (some d))
/-- What a ring takes. -/
def ringKit (w : Bool) (d : Fin 3) : sProp 𝕄 :=
  iprop(at0 c (.rs w d) ∗ run (rtok c w d) (hops w d) 0 ∗ run (rget c w d) (hops w d) 0)
/-- The ring's, with the rooms its sends land in. -/
def ringRun (w : Bool) (d : Fin 3) : sProp 𝕄 :=
  iprop(at0 c (.rs w d) ∗ run (rsnd c w d) (hops w d) 0 ∗ run (rget c w d) (hops w d) 0)

/-- A ring direction's tokens and credit, with the rooms, are what its run starts from. -/
theorem ringKit_rooms (w : Bool) (d : Fin 3) : iprop(ringKit (F := F) c w d ∗ rrooms c w d (hops w d) 0) ⊢ ringRun c w d := by
  unfold ringKit ringRun rsnd
  iintro ⟨⟨H1, H2, H3⟩, H4⟩
  isplitl [H1]; · iexact H1
  isplitl [H2 H4]
  · iapply (run_rrooms c w d (rtok c w d) (hops w d) 0); isplitl [H2] <;> iassumption
  iexact H3

omit [FloatOps F] in
/-- A ring starts once the chunk's stripe is in. -/
theorem ring_start (w : Bool) (d : Fin 3) : records m ρ K ⊢ iprop(ringRun c w d -∗ rsrc m ρ c w d 0 -∗ RA m ρ c w d 0 (hops w d)) := by
  unfold ringRun RA
  rw [show upto (rsrc m ρ c w d) 0 = iprop(emp) from rfl, show upto (rzer (F := F) c w d) 0 = iprop(emp) from rfl]
  iintro #HR ⟨H1, H2, H3⟩ H4
  isplitl [H1]; · iexact H1
  isplitr; · iapply (reached_at m ρ K (c, .rs w d)); iexact HR
  isplitl [H2]; · iexact H2
  isplitl [H3]; · iexact H3
  isplitl [H4]; · iexact H4
  isplitr <;> iempintro

/-- All a device starts with, by what takes it. -/
def kits : sProp 𝕄 :=
  iprop(barKit c ∗ exKit c ∗ (ztok c true none ∗ ztok c false none)
    ∗ (at0 c (.zs 0) ∗ at0 c (.zs 1) ∗ at0 c (.zs 2) ∗ at0 c (.zs 3) ∗ at0 c (.zs 4))
    ∗ (linKit c 0 ∗ linKit c 1 ∗ linKit c 2)
    ∗ (ringKit c true 0 ∗ ringKit c true 1 ∗ ringKit c true 2 ∗ ringKit c false 0 ∗ ringKit c false 1 ∗ ringKit c false 2)
    ∗ (at0 c (.rr true 1 3) ∗ at0 c (.rr false 0 3) ∗ at0 c (.rr false 2 3)))

/-- Every cell of the device at rest. -/
def rest : sProp 𝕄 := bigSep Finset.univ fun k : Ce => (semVal (kcell (c, k)) 0 : sProp 𝕄)

/-- A ring's cells at rest. -/
def ringRest (w : Bool) (d : Fin 3) : sProp 𝕄 :=
  iprop(semVal (kcell (c, .rs w d)) 0 ∗ semVal (kcell (c, .rr w d 0)) 0 ∗ semVal (kcell (c, .rr w d 1)) 0
    ∗ semVal (kcell (c, .rr w d 2)) 0 ∗ semVal (kcell (c, .rr w d 3)) 0)

omit [FloatOps F] in
/-- A ring of four steps, done. -/
theorem ring_done4 (w : Bool) (d : Fin 3) (h : hops w d = 4) :
    records m ρ K ⊢ iprop(RA m ρ c w d 4 0 -∗ |={Set.univ}=> (ringAll m ρ c w d ∗ ringRest c w d)) := by
  have e := ring_done m ρ K c w d
  rw [h] at e
  iintro #HR H
  imod e $$ HR H with H
  imodintro
  unfold ringDone ringAll ringRest
  rw [h]
  ihave H := (show iprop(rsrc m ρ c w d 4 ∗ upto (rsrc m ρ c w d) 4 ∗ upto (rzer (F := F) c w d) 4 ∗ semVal (kcell (c, .rs w d)) 0)
    ⊢ iprop(rsrc m ρ c w d 4 ∗ upto (rsrc m ρ c w d) 4 ∗ ((((emp ∗ semVal (kcell (c, .rr w d 0)) 0) ∗ semVal (kcell (c, .rr w d 1)) 0)
      ∗ semVal (kcell (c, .rr w d 2)) 0) ∗ semVal (kcell (c, .rr w d 3)) 0) ∗ semVal (kcell (c, .rs w d)) 0) from BI.Entails.refl _) $$ H
  icases H with ⟨H1, H2, ⟨⟨⟨⟨-, Z0⟩, Z1⟩, Z2⟩, Z3⟩, Zs⟩
  isplitl [H1 H2]; · isplitl [H1] <;> iassumption
  isplitl [Zs]; · iexact Zs
  isplitl [Z0]; · iexact Z0
  isplitl [Z1]; · iexact Z1
  isplitl [Z2] <;> iassumption

omit [FloatOps F] in
/-- A ring of three steps, done; its last cell was never used. -/
theorem ring_done3 (w : Bool) (d : Fin 3) (h : hops w d = 3) :
    records m ρ K ⊢ iprop(RA m ρ c w d 3 0 -∗ at0 c (.rr w d 3) -∗ |={Set.univ}=> (ringAll m ρ c w d ∗ ringRest c w d)) := by
  have e := ring_done m ρ K c w d
  rw [h] at e
  iintro #HR H Hat
  imod e $$ HR H with H
  imod (close m ρ K c (.rr w d 3) 0 (fun r' _ => if_neg fun hh => by have h1 : (3 : ℕ) < hops w d := hh.2; omega)) $$ HR Hat with Z3
  imodintro
  unfold ringDone ringAll ringRest
  rw [h]
  ihave H := (show iprop(rsrc m ρ c w d 3 ∗ upto (rsrc m ρ c w d) 3 ∗ upto (rzer (F := F) c w d) 3 ∗ semVal (kcell (c, .rs w d)) 0)
    ⊢ iprop(rsrc m ρ c w d 3 ∗ upto (rsrc m ρ c w d) 3 ∗ (((emp ∗ semVal (kcell (c, .rr w d 0)) 0) ∗ semVal (kcell (c, .rr w d 1)) 0)
      ∗ semVal (kcell (c, .rr w d 2)) 0) ∗ semVal (kcell (c, .rs w d)) 0) from BI.Entails.refl _) $$ H
  icases H with ⟨H1, H2, ⟨⟨⟨-, Z0⟩, Z1⟩, Z2⟩, Zs⟩
  isplitl [H1 H2]; · isplitl [H1] <;> iassumption
  isplitl [Zs]; · iexact Zs
  isplitl [Z0]; · iexact Z0
  isplitl [Z1]; · iexact Z1
  isplitl [Z2] <;> iassumption

omit [FloatOps F] in
/-- The values of all the cells, at zero again, make up what a device hands back. -/
theorem rest_intro : iprop(semVal (kcell (c, .bar)) 0 ∗ semVal (kcell (c, .ex)) 0
    ∗ (semVal (kcell (c, .zs 0)) 0 ∗ semVal (kcell (c, .zs 1)) 0 ∗ semVal (kcell (c, .zs 2)) 0 ∗ semVal (kcell (c, .zs 3)) 0 ∗ semVal (kcell (c, .zs 4)) 0)
    ∗ (semVal (kcell (c, .zr 0)) 0 ∗ semVal (kcell (c, .zr 1)) 0 ∗ semVal (kcell (c, .zr 2)) 0)
    ∗ ringRest c true 0 ∗ ringRest c true 1 ∗ ringRest c true 2 ∗ ringRest c false 0 ∗ ringRest c false 1 ∗ ringRest c false 2) ⊢ rest (F := F) c := by
  unfold rest
  rw [bigSep_univ_eq_bigSepL Ce.all (Finset.ext fun k => by simp [Ce.mem_all]) Ce.nodup_all]
  show _ ⊢ iprop(semVal (kcell (c, .bar)) 0 ∗ semVal (kcell (c, .ex)) 0 ∗ semVal (kcell (c, .zs 0)) 0 ∗ semVal (kcell (c, .zs 1)) 0
      ∗ semVal (kcell (c, .zs 2)) 0 ∗ semVal (kcell (c, .zs 3)) 0 ∗ semVal (kcell (c, .zs 4)) 0 ∗ semVal (kcell (c, .zr 0)) 0
      ∗ semVal (kcell (c, .zr 1)) 0 ∗ semVal (kcell (c, .zr 2)) 0 ∗ semVal (kcell (c, .rs true 0)) 0 ∗ semVal (kcell (c, .rs
      true 1)) 0 ∗ semVal (kcell (c, .rs true 2)) 0 ∗ semVal (kcell (c, .rs false 0)) 0 ∗ semVal (kcell (c, .rs false 1)) 0 ∗
      semVal (kcell (c, .rs false 2)) 0 ∗ semVal (kcell (c, .rr true 0 0)) 0 ∗ semVal (kcell (c, .rr true 0 1)) 0 ∗ semVal
      (kcell (c, .rr true 0 2)) 0 ∗ semVal (kcell (c, .rr true 0 3)) 0 ∗ semVal (kcell (c, .rr true 1 0)) 0 ∗ semVal (kcell
      (c, .rr true 1 1)) 0 ∗ semVal (kcell (c, .rr true 1 2)) 0 ∗ semVal (kcell (c, .rr true 1 3)) 0 ∗ semVal (kcell (c, .rr
      true 2 0)) 0 ∗ semVal (kcell (c, .rr true 2 1)) 0 ∗ semVal (kcell (c, .rr true 2 2)) 0 ∗ semVal (kcell (c, .rr true 2
      3)) 0 ∗ semVal (kcell (c, .rr false 0 0)) 0 ∗ semVal (kcell (c, .rr false 0 1)) 0 ∗ semVal (kcell (c, .rr false 0 2)) 0
      ∗ semVal (kcell (c, .rr false 0 3)) 0 ∗ semVal (kcell (c, .rr false 1 0)) 0 ∗ semVal (kcell (c, .rr false 1 1)) 0 ∗
      semVal (kcell (c, .rr false 1 2)) 0 ∗ semVal (kcell (c, .rr false 1 3)) 0 ∗ semVal (kcell (c, .rr false 2 0)) 0 ∗ semVal
      (kcell (c, .rr false 2 1)) 0 ∗ semVal (kcell (c, .rr false 2 2)) 0 ∗ semVal (kcell (c, .rr false 2 3)) 0)
  unfold ringRest
  iintro ⟨Z0, Z1, ⟨Z2, Z3, Z4, Z5, Z6⟩, ⟨Z7, Z8, Z9⟩, ⟨Z10, Z16, Z17, Z18, Z19⟩, ⟨Z11, Z20, Z21, Z22, Z23⟩, ⟨Z12, Z24, Z25, Z26, Z27⟩, ⟨Z13, Z28, Z29, Z30, Z31⟩, ⟨Z14, Z32, Z33, Z34, Z35⟩, ⟨Z15, Z36, Z37, Z38, Z39⟩⟩
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  isplitl [Z12]; · iexact Z12
  isplitl [Z13]; · iexact Z13
  isplitl [Z14]; · iexact Z14
  isplitl [Z15]; · iexact Z15
  isplitl [Z16]; · iexact Z16
  isplitl [Z17]; · iexact Z17
  isplitl [Z18]; · iexact Z18
  isplitl [Z19]; · iexact Z19
  isplitl [Z20]; · iexact Z20
  isplitl [Z21]; · iexact Z21
  isplitl [Z22]; · iexact Z22
  isplitl [Z23]; · iexact Z23
  isplitl [Z24]; · iexact Z24
  isplitl [Z25]; · iexact Z25
  isplitl [Z26]; · iexact Z26
  isplitl [Z27]; · iexact Z27
  isplitl [Z28]; · iexact Z28
  isplitl [Z29]; · iexact Z29
  isplitl [Z30]; · iexact Z30
  isplitl [Z31]; · iexact Z31
  isplitl [Z32]; · iexact Z32
  isplitl [Z33]; · iexact Z33
  isplitl [Z34]; · iexact Z34
  isplitl [Z35]; · iexact Z35
  isplitl [Z36]; · iexact Z36
  isplitl [Z37]; · iexact Z37
  isplitl [Z38]; · iexact Z38
  iexact Z39

/-- The semaphore that a one-element slice of an array of semaphores names: the array's first, and the offset on from it. -/
theorem sem_slice {b n : ℕ} (h : b + (⟨1, ![n]⟩ : Shape).numel ≤ 40) (off : Fin 1 → ℕ)
    (inb : ∀ a, off a + S1.size a ≤ (⟨1, ![n]⟩ : Shape).size a) :
    ((((SemArray.consecutive b ⟨1, ![n]⟩ h : DmaSems sig ⟨1, ![n]⟩).slice (Rect.unit (s := ⟨1, ![n]⟩) off S1.size inb)).squeeze S_
      squeezes_S1_S_).sem : Fin 40).val = b + off 0 := by
  simp only [SemArray.sem, SemArray.ix_squeeze, SemArray.ix_slice, SemArray.consecutive]
  rw [Shape.rowMajor_val_one]
  have := (Shape.reshapeEquiv (Shape.Squeezes.numel_eq squeezes_S1_S_) (fun i => i.elim0) 0).isLt
  simp [Rect.emb, Rect.unit] at this ⊢

section Sems
variable {off : Fin 1 → ℕ}
/-- The line's send cells, as their addresses are computed. -/
theorem zs_sem (i : Fin 5) (inb : ∀ a, off a + S1.size a ≤ S5.size a) (h : off = ![i.val]) :
    SemLoc.dma ((cc0_scratch1.slice (Rect.unit (s := S5) off S1.size inb)).squeeze S_ squeezes_S1_S_).sem = csem (.zs i) := by
  subst h; exact congrArg SemLoc.dma (Fin.ext (sem_slice _ _ inb))
/-- The line's receive cells likewise. -/
theorem zr_sem (d : Fin 3) (inb : ∀ a, off a + S1.size a ≤ S3.size a) (h : off = ![d.val]) :
    SemLoc.dma ((cc0_scratch2.slice (Rect.unit (s := S3) off S1.size inb)).squeeze S_ squeezes_S1_S_).sem = csem (.zr d) := by
  subst h; exact congrArg SemLoc.dma (Fin.ext (sem_slice _ _ inb))
/-- The clockwise rings' send cells. -/
theorem rsT_sem (d : Fin 3) (inb : ∀ a, off a + S1.size a ≤ S3.size a) (h : off = ![d.val]) :
    SemLoc.dma ((cc0_scratch3.slice (Rect.unit (s := S3) off S1.size inb)).squeeze S_ squeezes_S1_S_).sem = csem (.rs true d) := by
  subst h; exact congrArg SemLoc.dma (Fin.ext (sem_slice _ _ inb))
/-- The counter-clockwise rings' send cells. -/
theorem rsF_sem (d : Fin 3) (inb : ∀ a, off a + S1.size a ≤ S3.size a) (h : off = ![d.val]) :
    SemLoc.dma ((cc0_scratch5.slice (Rect.unit (s := S3) off S1.size inb)).squeeze S_ squeezes_S1_S_).sem = csem (.rs false d) := by
  subst h; exact congrArg SemLoc.dma (Fin.ext (sem_slice _ _ inb))
/-- The clockwise rings' receive cells, one a step. -/
theorem rrT_sem (d : Fin 3) (j : Fin 4) (inb : ∀ a, off a + S1.size a ≤ S12.size a) (h : off = ![4 * d.val + j.val]) :
    SemLoc.dma ((cc0_scratch4.slice (Rect.unit (s := S12) off S1.size inb)).squeeze S_ squeezes_S1_S_).sem = csem (.rr true d j) := by
  subst h
  exact congrArg SemLoc.dma (Fin.ext ((sem_slice _ _ inb).trans (Nat.add_assoc 13 _ _).symm))
/-- The counter-clockwise rings' receive cells. -/
theorem rrF_sem (d : Fin 3) (j : Fin 4) (inb : ∀ a, off a + S1.size a ≤ S12.size a) (h : off = ![4 * d.val + j.val]) :
    SemLoc.dma ((cc0_scratch6.slice (Rect.unit (s := S12) off S1.size inb)).squeeze S_ squeezes_S1_S_).sem = csem (.rr false d j) := by
  subst h
  exact congrArg SemLoc.dma (Fin.ext ((sem_slice _ _ inb).trans (Nat.add_assoc 28 _ _).symm))
end Sems

/-- The own chunk's rectangle. -/
theorem own_sub (off : Fin 2 → ℕ) (hoff : off = ![1024 * (zc c).val, 0]) (inb : ∀ a, off a + S1024x512.size a ≤ S4096x512.size a) :
    (oM.access (Rect.unit (s := S4096x512) off S1024x512.size inb) : View sig .tc _ _ _).set ⊆ (oC (zc c)).view.set := by
  subst hoff; exact subset_rfl

/-- The own chunk, stored. -/
theorem own_stored (off : Fin 2 → ℕ) (hoff : off = ![1024 * (zc c).val, 0]) (inb : ∀ a, off a + S1024x512.size a ≤ S4096x512.size a)
    (f : (cc0_stg1_0 : Ref sig .tc).ty.Contents (Elt F)) :
    ((oM.access (Rect.unit (s := S4096x512) off S1024x512.size inb) : View sig .tc _ _ _).loc (c : Thread nD τ) ↦[(oC (zc c)).view.set]{fullShare}
      ((oM.access (Rect.unit (s := S4096x512) off S1024x512.size inb) : View sig .tc _ _ _).write (Elt F) f (k0_pay2 (xstg m ρ c)) Finset.univ))
    ⊢ own c (fin m ρ c) := Entails.of_eq (store_own m ρ c off hoff inb f)

omit [FloatOps F] in
/-- A stripe's transfer credits the same wherever it lies. -/
theorem N_cut (off : Fin 2 → ℕ) (inb : ∀ a, off a + S128x512.size a ≤ S4096x512.size a)
    (hs : ∀ a, (Rect.unit (s := S4096x512) off S128x512.size inb).stride a = 1) :
    (oM.slice (Rect.unit (s := S4096x512) off S128x512.size inb) hs).view.dmaCredit = N := rfl

/-- A part's value matters only in what is known of it. -/
theorem ret_of {α : Type} (I : α → Prop) {a : α} (ha : I a) {Q : α → sProp 𝕄} :
    iprop(∀ r, ⌜I r⌝ -∗ Q r) ⊢ wp frame (wpE (defs₀ (F := F)) 𝒱₀ (c : Thread nD τ) none) Set.univ (.ret a : Prog (TpuEff nD τ sig (Elt F) Λ₀ .tc) α) Q := by
  rw [wp_ret]
  iintro H
  imodintro
  iapply H
  ipureintro; exact ha

omit [FloatOps F] in
/-- The staged stripe is the whole staging scratch. -/
theorem stage_whole (f) : (stage (F := F) c fullShare f) = (((c : Thread nD τ).loc cc0_scratch0) ↦{fullShare} f : sProp 𝕄) := by
  unfold stage
  rw [show gM.view.set = Finset.univ from View.set_whole _]

/-- What a device ends with. -/
def done : sProp 𝕄 :=
  iprop((((c : Thread nD τ).loc cc0_stg0_0) ↦{fullShare} xstg m ρ c) ∗ (((c : Thread nD τ).loc cc0_stg1_0) ↦{fullShare} fin m ρ c)
    ∗ (∃ g, ((c : Thread nD τ).loc cc0_scratch0) ↦{fullShare} g) ∗ rest c ∗ ∃ W, owes (c : Thread nD τ) 0 W)

section Completion
variable (n : ℕ) {p : Prop} [Decidable p] {s1 : DmaSem sig} {sp sp' : Space} {s s' : Shape} {e e' : EltTy}
  {src : p → Memref sig .tc sp' s' e'} {dst : p → Memref sig .tc sp s e} {hsrc : ∀ h, (src h).view.WordExact} {hdst : ∀ h, (dst h).view.WordExact}

/-- The own stripe's send, waited for where it was made. -/
theorem wait_own (u : Bool) (i : Fin 5) (hi : i = zi u none) (hpA : p ↔ zdA u c = true) (hs : SemLoc.dma s1 = csem (.zs i))
    (hd : ∀ h, (dst h).view.dmaCredit = N) {α : Type} {Q : α → sProp 𝕄} {kk : Prog (TpuEff nD τ sig (Elt F) Λ₀ .tc) α} :
    HO m ρ K c n ⊢ iprop(atPos ER (kcell (c, .zs i)) 0 ∅ 0 -∗ zout m ρ c u none
      -∗ (HO m ρ K c n -∗ zsrc m ρ c u none -∗ semVal (kcell (c, .zs i)) 0 -∗ wp frame (wpE (defs₀ (F := F)) 𝒱₀ (c : Thread nD τ) none) Set.univ kk Q)
      -∗ wp frame (wpE (defs₀ (F := F)) 𝒱₀ (c : Thread nD τ) none) Set.univ
          (if h : p then .op (.waitDma2 s1 (src h) (dst h) (hsrc h) (hdst h)) (fun _ => kk) else kk : Prog (TpuEff nD τ sig (Elt F) Λ₀ .tc) α) Q) := by
  subst hi
  have e : zsA c (zi u none) = zdA u c := by cases u <;> rfl
  iintro HO Hat Ho Hk
  ihave Ho := (own_out m ρ c u) $$ Ho
  iapply (line_wait m ρ K c (zi u none) n (by rw [e]; exact hpA) hs hd (zsrc m ρ c u none)) $$ HO Hat Ho Hk

/-- A forwarded chunk's send, waited for where it was made. -/
theorem wait_fwd (d : Fin 3) (i : Fin 5) (hi : i = zi true (some d)) (hpA : p ↔ (zfA true d c || zfA false d c) = true) (hs : SemLoc.dma s1 = csem (.zs i))
    (hd : ∀ h, (dst h).view.dmaCredit = N) {α : Type} {Q : α → sProp 𝕄} {kk : Prog (TpuEff nD τ sig (Elt F) Λ₀ .tc) α} :
    HO m ρ K c n ⊢ iprop(atPos ER (kcell (c, .zs i)) 0 ∅ 0 -∗ zout m ρ c true (some d) -∗ zout m ρ c false (some d)
      -∗ (HO m ρ K c n -∗ (zsrc m ρ c true (some d) ∗ zsrc m ρ c false (some d)) -∗ semVal (kcell (c, .zs i)) 0 -∗ wp frame (wpE (defs₀ (F := F)) 𝒱₀ (c : Thread nD τ) none) Set.univ kk Q)
      -∗ wp frame (wpE (defs₀ (F := F)) 𝒱₀ (c : Thread nD τ) none) Set.univ
          (if h : p then .op (.waitDma2 s1 (src h) (dst h) (hsrc h) (hdst h)) (fun _ => kk) else kk : Prog (TpuEff nD τ sig (Elt F) Λ₀ .tc) α) Q) := by
  subst hi
  iintro HO Hat H1 H2 Hk
  ihave Ho := (fwd_out m ρ c d) $$ [H1 H2]
  · isplitl [H1] <;> iassumption
  iapply (line_wait m ρ K c (zi true (some d)) n (by rw [zs_some]; exact hpA) hs hd iprop(zsrc m ρ c true (some d) ∗ zsrc m ρ c false (some d))) $$ HO Hat Ho Hk
end Completion

end Cert.KernelIdeal.Coll
end
-- ==== Proof.Body.lean ====
/-
  One device's run of the kernel, operation by operation.
-/
module
public import proofs.«01_k».proof.Proof.Kit
@[expose] public section
noncomputable section
namespace Cert.KernelIdeal.Coll
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Ce → ℕ) (c : Dev nD)

set_option maxHeartbeats 8000000 in
/-- The run of one device: from its kit and its buffers to the gathered array and every counter at zero. -/
theorem sound_body (Kt : PUnit → sProp 𝕄) :
    HO m ρ K c 0 ⊢ iprop(kits c -∗ (((c : Thread nD τ).loc cc0_stg0_0) ↦{fullShare} xstg m ρ c)
      -∗ (∃ f, ((c : Thread nD τ).loc cc0_stg1_0) ↦{fullShare} f) -∗ (∃ g, ((c : Thread nD τ).loc cc0_scratch0) ↦{fullShare} g)
      -∗ (done m ρ c -∗ Kt ⟨⟩)
      -∗ wp frame (wpE (defs₀ (F := F)) 𝒱₀ c none) Set.univ
          (cc0_body xM (Memref.isWhole_whole _) oM (Memref.isWhole_whole _) gM (Memref.isWhole_whole _)
             cc0_scratch1 cc0_scratch2 cc0_scratch3 cc0_scratch4 cc0_scratch5 cc0_scratch6 cc0_scratch7) Kt) := by
  unfold kits barKit exKit linKit
  iintro HO ⟨⟨Hatb, Hcb, Hb0, Hb1, Hb2, Hb3⟩, ⟨Hate, Hce, He0, He1, He2, He3⟩, ⟨tU, tD⟩, ⟨S0, S1, S2, S3, S4⟩, ⟨L0, L1, L2⟩,
    ⟨kT0, kT1, kT2, kF0, kF1, kF2⟩, X1, X0, X2⟩ Hx ⟨%f, Ho⟩ ⟨%g, Hg⟩ HK
  ihave #HR := (show HO m ρ K c 0 ⊢ records m ρ K from Laws.sep_elim_left) $$ HO
  icases (cut c f).1 $$ Ho with ⟨Ho, Hrest⟩
  icases (rooms c f) $$ Hrest with ⟨P0, P1, P2, P3⟩
  simp only [cc0_body_eq_skeleton]; unfold cc0_body_skel
  rw [wp_bind, k0_part45_eq_skeleton]; unfold k0_part45_skel
  rw [wp_bind, k0_part1_eq_skeleton]; unfold k0_part1_skel
  simp only [semSignalWord, semWaitWord, Prog.lift, Prog.bind_op, Prog.bind_ret, Prog.pure_eq_ret, wp_deviceId]
  iapply (ret_of c (fun r => r.1 = c) rfl)
  iintro %r %hr
  obtain ⟨d0, r⟩ := r
  obtain rfl : c = d0 := hr.symm
  rw [wp_bind, k0_part2_eq_skeleton]; unfold k0_part2_skel
  simp only [semSignalWord, semWaitWord, Prog.lift, Prog.bind_op, Prog.bind_ret, Prog.pure_eq_ret, wp_deviceId]
  iapply (ret_of c (fun _ => True) trivial)
  iintro %r -
  rw [wp_bind, k0_part3_eq_skeleton]; unfold k0_part3_skel
  simp only [semSignalWord, semWaitWord, Prog.lift, Prog.bind_op, Prog.bind_ret, Prog.pure_eq_ret, wp_deviceId]
  ihave P0 := (show barPay (nx true c) 0 ⊢ payC m ρ (nb 0 c) 0 0 .bar from BI.Entails.refl _) $$ P0
  iapply (signal_step m ρ K c 0 (.bar 0) rfl rfl (t1 := nb 0 c) (t2 := .bar) rfl 0 (Finset.mem_univ _) rfl (dev1_eq c) rfl rfl) $$ HO Hb0 P0
  iintro HO
  ihave P1 := (show barPay (nx false c) 1 ⊢ payC m ρ (nb 1 c) 0 1 .bar from BI.Entails.refl _) $$ P1
  iapply (signal_step m ρ K c 1 (.bar 1) rfl rfl (t1 := nb 1 c) (t2 := .bar) rfl 1 (Finset.mem_univ _) rfl (dev2_eq c) rfl rfl) $$ HO Hb1 P1
  iintro HO
  ihave P2 := (show barPay (zn true c) 2 ⊢ payC m ρ (nb 2 c) 0 2 .bar from BI.Entails.refl _) $$ P2
  iapply (signal_step m ρ K c 2 (.bar 2) rfl rfl (t1 := nb 2 c) (t2 := .bar) rfl 2 (Finset.mem_univ _) rfl (dev3_eq c) rfl rfl) $$ HO Hb2 P2
  iintro HO
  iapply (ret_of c (fun r => r.2.2.1 = SemArray.scalar (sig.barrier 0 rfl)) rfl)
  iintro %r3 %hr3
  rw [wp_bind, k0_part4_eq_skeleton]; unfold k0_part4_skel
  simp only [semSignalWord, semWaitWord, Prog.lift, Prog.bind_op, Prog.bind_ret, Prog.pure_eq_ret, wp_deviceId, hr3]
  ihave P3 := (show barPay (zn false c) 3 ⊢ payC m ρ (nb 3 c) 0 3 .bar from BI.Entails.refl _) $$ P3
  iapply (signal_step m ρ K c 3 (.bar 3) rfl rfl (t1 := nb 3 c) (t2 := .bar) rfl 3 (Finset.mem_univ _) rfl (dev4_eq c) rfl rfl) $$ HO Hb3 P3
  iintro HO
  iapply (wait_step m ρ K c 4 .bar 0 ((by decide +kernel : ∀ c, Waitable 4 c .bar) c) (sm := .reg (1 : Fin 2)) (k' := 4) rfl (wpE_semWait_eq 𝒱₀ (c : Thread nD τ) none Set.univ) rfl) $$ HO Hcb Hatb
  iintro HO Hatb - Hp
  icases (Entails.of_eq (rest_four m ρ c .bar 0 rfl)) $$ Hp with ⟨Q0, Q1, Q2, Q3⟩
  imod (close m ρ K c .bar (0 + 1) (fun r' hr => if_neg fun h => by omega)) $$ HR Hatb with Zb
  icases (show payC m ρ c 0 0 .bar ⊢ iprop(rrooms c false 0 (hops false 0) 0 ∗ rrooms c false 1 (hops false 1) 0 ∗ rrooms c false 2 (hops false 2) 0) from BI.Entails.refl _) $$ Q0 with ⟨R0, R1, R2⟩
  ihave F0 := (ringKit_rooms c false 0) $$ [kF0 R0]
  · isplitl [kF0] <;> iassumption
  ihave F1 := (ringKit_rooms c false 1) $$ [kF1 R1]
  · isplitl [kF1] <;> iassumption
  ihave F2 := (ringKit_rooms c false 2) $$ [kF2 R2]
  · isplitl [kF2] <;> iassumption
  icases (show payC m ρ c 0 1 .bar ⊢ iprop(rrooms c true 0 (hops true 0) 0 ∗ rrooms c true 1 (hops true 1) 0 ∗ rrooms c true 2 (hops true 2) 0) from BI.Entails.refl _) $$ Q1 with ⟨R0, R1, R2⟩
  ihave T0 := (ringKit_rooms c true 0) $$ [kT0 R0]
  · isplitl [kT0] <;> iassumption
  ihave T1 := (ringKit_rooms c true 1) $$ [kT1 R1]
  · isplitl [kT1] <;> iassumption
  ihave T2 := (ringKit_rooms c true 2) $$ [kT2 R2]
  · isplitl [kT2] <;> iassumption
  icases (show payC m ρ c 0 2 .bar ⊢ iprop(zroom c false none ∗ zroom c false (some 0) ∗ zroom c false (some 1) ∗ zroom c false (some 2)) from BI.Entails.refl _) $$ Q2 with ⟨rD, rD0, rD1, rD2⟩
  icases (show payC m ρ c 0 3 .bar ⊢ iprop(zroom c true none ∗ zroom c true (some 0) ∗ zroom c true (some 1) ∗ zroom c true (some 2)) from BI.Entails.refl _) $$ Q3 with ⟨rU, rU0, rU1, rU2⟩
  -- the stage: the device's own stripe
  iapply (wp_load 𝒱₀ (c : Thread nD τ) none Set.univ (m := xM) (Finset.subset_univ _)) $$ Hx
  iintro Hx
  rw [load_stg]
  iapply (wp_load 𝒱₀ (c : Thread nD τ) none Set.univ (m := gM) (Finset.subset_univ _)) $$ Hg
  iintro Hg
  ihave Hg := (show (gM.view.loc (c : Thread nD τ) ↦{fullShare} g) ⊢ ((gM.access (Rect.unit (s := S128x512) ![0, 0] S128x512.size inb_S128x512_S128x512_0_0) : View sig .tc _ _ _).loc (c : Thread nD τ) ↦{fullShare} g) from BI.Entails.refl _) $$ Hg
  iapply (wp_store 𝒱₀ (c : Thread nD τ) none Set.univ (m := gM) (Mk := Finset.univ) (Finset.subset_univ _)) $$ Hg
  iintro Hg
  rw [store_stg]
  ihave Hg := (Entails.of_eq (stage_whole c _).symm) $$ Hg
  icases (stage_half c (stgc m ρ c)).1 $$ Hg with ⟨U, D⟩
  ihave U := (show stage c fullShare.left (stgc m ρ c) ⊢ zsrc m ρ c true none from BI.Entails.refl _) $$ U
  ihave D := (show stage c fullShare.right (stgc m ρ c) ⊢ zsrc m ρ c false none from BI.Entails.refl _) $$ D
  iapply (line_own m ρ K c true 4 rfl (cond1_eq c) (off3_eq c) (dev5_eq c) (zs_sem (off := ![0]) 0 _ rfl) (fun h => zr_sem _ _ (off2_eq c h))) $$ HO tU rU U
  iintro HO U
  iapply (line_own m ρ K c false 5 rfl (cond2_eq c) (off5_eq c) (dev6_eq c) (zs_sem (off := ![1]) 1 _ rfl) (fun h => zr_sem _ _ (off4_eq c h))) $$ HO tD rD D
  iintro HO D
  -- the own chunk
  iapply (wp_load 𝒱₀ (c : Thread nD τ) none Set.univ (m := xM) (Finset.subset_univ _)) $$ Hx
  iintro Hx
  rw [load_own]
  ihave Ho := (show own c f ⊢ ((oM.access (Rect.unit (s := S4096x512) (k0_off6 c) S1024x512.size (k0_off6_inb c)) : View sig .tc _ _ _).loc (c : Thread nD τ) ↦[(oC (zc c)).view.set]{fullShare} f) from BI.Entails.refl _) $$ Ho
  iapply (wp_load_rect 𝒱₀ (c : Thread nD τ) none Set.univ (m := oM) (r := Rect.unit (s := S4096x512) (k0_off6 c) S1024x512.size (k0_off6_inb c)) (own_sub c (k0_off6 c) (off6_eq c) (k0_off6_inb c))) $$ Ho
  iintro Ho
  iapply (wp_store 𝒱₀ (c : Thread nD τ) none Set.univ (m := oM) (Mk := Finset.univ) (by rw [View.setOn_univ]; exact own_sub c _ (off6_eq c) _)) $$ Ho
  iintro Ho
  ihave Ho := (own_stored m ρ c _ (off6_eq c) (k0_off6_inb c) f) $$ Ho
  iapply (ret_of c (fun _ => True) trivial)
  iintro %r -
  rw [wp_bind, k0_part5_eq_skeleton]; unfold k0_part5_skel
  simp only [semSignalWord, semWaitWord, Prog.lift, Prog.bind_op, Prog.bind_ret, Prog.pure_eq_ret, wp_deviceId]
  icases L0 with ⟨La, Lc, tU0, tD0⟩
  iapply (line_recv m ρ K c 0 6 ((by decide +kernel : ∀ c, Waitable 6 c (.zr 0)) c) (zr_sem (off := ![0]) 0 _ rfl) (N_cut _ _ _)) $$ HO La Lc
  iintro HO U0 D0 S T Zr0
  ihave T0 := (show records m ρ K ⊢ iprop(ringRun c true 0 -∗ rsrc m ρ c true 0 0 -∗ RA m ρ c true 0 0 4) from ring_start m ρ K c true 0) $$ HR T0 S
  ihave F0 := (show records m ρ K ⊢ iprop(ringRun c false 0 -∗ rsrc m ρ c false 0 0 -∗ RA m ρ c false 0 0 3) from ring_start m ρ K c false 0) $$ HR F0 T
  iapply (line_fwd m ρ K c true 0 6 rfl (cond3_eq c) (off9_eq c) (dev7_eq c) (zs_sem (off := ![2]) 2 _ rfl) (fun h => zr_sem _ _ (off8_eq c h))) $$ HO tU0 rU0 U0
  iintro HO U0
  iapply (line_fwd m ρ K c false 0 7 rfl (cond4_eq c) (off11_eq c) (dev8_eq c) (zs_sem (off := ![2]) 2 _ rfl) (fun h => zr_sem _ _ (off10_eq c h))) $$ HO tD0 rD0 D0
  iintro HO D0
  iapply (ring_send m ρ K c true 0 0 3 8 (by decide) rfl (by rw [sh_zero]; exact off7_eq c) (dev9_eq c) (rsT_sem (off := ![0]) 0 _ rfl) (rrT_sem (off := ![0]) 0 (jf 0) _ rfl)) $$ HO T0
  iintro HO T0
  iapply (ret_of c (fun _ => True) trivial)
  iintro %r -
  rw [wp_bind, k0_part6_eq_skeleton]; unfold k0_part6_skel
  simp only [semSignalWord, semWaitWord, Prog.lift, Prog.bind_op, Prog.bind_ret, Prog.pure_eq_ret, wp_deviceId]
  iapply (ring_send m ρ K c false 0 0 2 9 (by decide) rfl (by rw [sh_zero]; exact off7_eq c) (dev10_eq c) (rsF_sem (off := ![0]) 0 _ rfl) (rrF_sem (off := ![0]) 0 (jf 0) _ rfl)) $$ HO F0
  iintro HO F0
  icases L1 with ⟨La, Lc, tU1, tD1⟩
  iapply (line_recv m ρ K c 1 10 ((by decide +kernel : ∀ c, Waitable 10 c (.zr 1)) c) (zr_sem (off := ![1]) 1 _ rfl) (N_cut _ _ _)) $$ HO La Lc
  iintro HO U1 D1 S T Zr1
  ihave T1 := (show records m ρ K ⊢ iprop(ringRun c true 1 -∗ rsrc m ρ c true 1 0 -∗ RA m ρ c true 1 0 3) from ring_start m ρ K c true 1) $$ HR T1 S
  ihave F1 := (show records m ρ K ⊢ iprop(ringRun c false 1 -∗ rsrc m ρ c false 1 0 -∗ RA m ρ c false 1 0 4) from ring_start m ρ K c false 1) $$ HR F1 T
  iapply (line_fwd m ρ K c true 1 10 rfl (cond5_eq c) (off14_eq c) (dev11_eq c) (zs_sem (off := ![3]) 3 _ rfl) (fun h => zr_sem _ _ (off13_eq c h))) $$ HO tU1 rU1 U1
  iintro HO U1
  iapply (ret_of c (fun _ => True) trivial)
  iintro %r -
  rw [wp_bind, k0_part7_eq_skeleton]; unfold k0_part7_skel
  simp only [semSignalWord, semWaitWord, Prog.lift, Prog.bind_op, Prog.bind_ret, Prog.pure_eq_ret, wp_deviceId]
  iapply (line_fwd m ρ K c false 1 11 rfl (cond6_eq c) (off16_eq c) (dev12_eq c) (zs_sem (off := ![3]) 3 _ rfl) (fun h => zr_sem _ _ (off15_eq c h))) $$ HO tD1 rD1 D1
  iintro HO D1
  iapply (ring_send m ρ K c true 1 0 2 12 (by decide) rfl (by rw [sh_zero]; exact off12_eq c) (dev13_eq c) (rsT_sem (off := ![1]) 1 _ rfl) (rrT_sem (off := ![4]) 1 (jf 0) _ rfl)) $$ HO T1
  iintro HO T1
  iapply (ret_of c (fun _ => True) trivial)
  iintro %r -
  rw [wp_bind, k0_part8_eq_skeleton]; unfold k0_part8_skel
  simp only [semSignalWord, semWaitWord, Prog.lift, Prog.bind_op, Prog.bind_ret, Prog.pure_eq_ret, wp_deviceId]
  iapply (ring_send m ρ K c false 1 0 3 13 (by decide) rfl (by rw [sh_zero]; exact off12_eq c) (dev14_eq c) (rsF_sem (off := ![1]) 1 _ rfl) (rrF_sem (off := ![4]) 1 (jf 0) _ rfl)) $$ HO F1
  iintro HO F1
  icases L2 with ⟨La, Lc, tU2, tD2⟩
  iapply (line_recv m ρ K c 2 14 ((by decide +kernel : ∀ c, Waitable 14 c (.zr 2)) c) (zr_sem (off := ![2]) 2 _ rfl) (N_cut _ _ _)) $$ HO La Lc
  iintro HO U2 D2 S T Zr2
  ihave T2 := (show records m ρ K ⊢ iprop(ringRun c true 2 -∗ rsrc m ρ c true 2 0 -∗ RA m ρ c true 2 0 4) from ring_start m ρ K c true 2) $$ HR T2 S
  ihave F2 := (show records m ρ K ⊢ iprop(ringRun c false 2 -∗ rsrc m ρ c false 2 0 -∗ RA m ρ c false 2 0 3) from ring_start m ρ K c false 2) $$ HR F2 T
  iapply (line_fwd m ρ K c true 2 14 rfl (cond7_eq c) (off19_eq c) (dev15_eq c) (zs_sem (off := ![4]) 4 _ rfl) (fun h => zr_sem _ _ (off18_eq c h))) $$ HO tU2 rU2 U2
  iintro HO U2
  iapply (line_fwd m ρ K c false 2 15 rfl (cond8_eq c) (off21_eq c) (dev16_eq c) (zs_sem (off := ![4]) 4 _ rfl) (fun h => zr_sem _ _ (off20_eq c h))) $$ HO tD2 rD2 D2
  iintro HO D2
  iapply (ret_of c (fun _ => True) trivial)
  iintro %r -
  rw [wp_bind, k0_part9_eq_skeleton]; unfold k0_part9_skel
  simp only [semSignalWord, semWaitWord, Prog.lift, Prog.bind_op, Prog.bind_ret, Prog.pure_eq_ret, wp_deviceId]
  iapply (ring_send m ρ K c true 2 0 3 16 (by decide) rfl (by rw [sh_zero]; exact off17_eq c) (dev17_eq c) (rsT_sem (off := ![2]) 2 _ rfl) (rrT_sem (off := ![8]) 2 (jf 0) _ rfl)) $$ HO T2
  iintro HO T2
  iapply (ring_send m ρ K c false 2 0 2 17 (by decide) rfl (by rw [sh_zero]; exact off17_eq c) (dev18_eq c) (rsF_sem (off := ![2]) 2 _ rfl) (rrF_sem (off := ![8]) 2 (jf 0) _ rfl)) $$ HO F2
  iintro HO F2
  iapply (ret_of c (fun _ => True) trivial)
  iintro %r -
  rw [wp_bind, k0_part10_eq_skeleton]; unfold k0_part10_skel
  simp only [semSignalWord, semWaitWord, Prog.lift, Prog.bind_op, Prog.bind_ret, Prog.pure_eq_ret, wp_deviceId]
  iapply (ring_recv m ρ K c true 0 0 3 18 (by decide) ((by decide +kernel : ∀ c, Waitable 18 c (.rr true 0 (jf 0))) c) (rrT_sem (off := ![0]) 0 (jf 0) _ rfl) (N_cut _ _ _)) $$ HO T0
  iintro HO T0
  iapply (ring_wait m ρ K c true 0 0 3 18 (by decide) (rsT_sem (off := ![0]) 0 _ rfl) (N_cut _ _ _)) $$ HO T0
  iintro HO T0
  iapply (ret_of c (fun _ => True) trivial)
  iintro %r -
  rw [wp_bind, k0_part11_eq_skeleton]; unfold k0_part11_skel
  simp only [semSignalWord, semWaitWord, Prog.lift, Prog.bind_op, Prog.bind_ret, Prog.pure_eq_ret, wp_deviceId]
  iapply (ring_send m ρ K c true 0 1 2 18 (by decide) rfl (off22_eq c 0) (dev19_eq c) (rsT_sem (off := ![0]) 0 _ rfl) (rrT_sem (off := ![1]) 0 (jf 1) _ rfl)) $$ HO T0
  iintro HO T0
  iapply (ret_of c (fun _ => True) trivial)
  iintro %r -
  rw [wp_bind, k0_part12_eq_skeleton]; unfold k0_part12_skel
  simp only [semSignalWord, semWaitWord, Prog.lift, Prog.bind_op, Prog.bind_ret, Prog.pure_eq_ret, wp_deviceId]
  iapply (ring_recv m ρ K c false 0 0 2 19 (by decide) ((by decide +kernel : ∀ c, Waitable 19 c (.rr false 0 (jf 0))) c) (rrF_sem (off := ![0]) 0 (jf 0) _ rfl) (N_cut _ _ _)) $$ HO F0
  iintro HO F0
  iapply (ring_wait m ρ K c false 0 0 2 19 (by decide) (rsF_sem (off := ![0]) 0 _ rfl) (N_cut _ _ _)) $$ HO F0
  iintro HO F0
  iapply (ret_of c (fun _ => True) trivial)
  iintro %r -
  rw [wp_bind, k0_part13_eq_skeleton]; unfold k0_part13_skel
  simp only [semSignalWord, semWaitWord, Prog.lift, Prog.bind_op, Prog.bind_ret, Prog.pure_eq_ret, wp_deviceId]
  iapply (ring_send m ρ K c false 0 1 1 19 (by decide) rfl (off23_eq c 0) (dev20_eq c) (rsF_sem (off := ![0]) 0 _ rfl) (rrF_sem (off := ![1]) 0 (jf 1) _ rfl)) $$ HO F0
  iintro HO F0
  iapply (ring_recv m ρ K c true 1 0 2 20 (by decide) ((by decide +kernel : ∀ c, Waitable 20 c (.rr true 1 (jf 0))) c) (rrT_sem (off := ![4]) 1 (jf 0) _ rfl) (N_cut _ _ _)) $$ HO T1
  iintro HO T1
  iapply (ret_of c (fun _ => True) trivial)
  iintro %r -
  rw [wp_bind, k0_part14_eq_skeleton]; unfold k0_part14_skel
  simp only [semSignalWord, semWaitWord, Prog.lift, Prog.bind_op, Prog.bind_ret, Prog.pure_eq_ret, wp_deviceId]
  iapply (ring_wait m ρ K c true 1 0 2 20 (by decide) (rsT_sem (off := ![1]) 1 _ rfl) (N_cut _ _ _)) $$ HO T1
  iintro HO T1
  iapply (ring_send m ρ K c true 1 1 1 20 (by decide) rfl (off24_eq c 0) (dev21_eq c) (rsT_sem (off := ![1]) 1 _ rfl) (rrT_sem (off := ![5]) 1 (jf 1) _ rfl)) $$ HO T1
  iintro HO T1
  iapply (ret_of c (fun _ => True) trivial)
  iintro %r -
  rw [wp_bind, k0_part15_eq_skeleton]; unfold k0_part15_skel
  simp only [semSignalWord, semWaitWord, Prog.lift, Prog.bind_op, Prog.bind_ret, Prog.pure_eq_ret, wp_deviceId]
  iapply (ring_recv m ρ K c false 1 0 3 21 (by decide) ((by decide +kernel : ∀ c, Waitable 21 c (.rr false 1 (jf 0))) c) (rrF_sem (off := ![4]) 1 (jf 0) _ rfl) (N_cut _ _ _)) $$ HO F1
  iintro HO F1
  iapply (ring_wait m ρ K c false 1 0 3 21 (by decide) (rsF_sem (off := ![1]) 1 _ rfl) (N_cut _ _ _)) $$ HO F1
  iintro HO F1
  iapply (ret_of c (fun _ => True) trivial)
  iintro %r -
  rw [wp_bind, k0_part16_eq_skeleton]; unfold k0_part16_skel
  simp only [semSignalWord, semWaitWord, Prog.lift, Prog.bind_op, Prog.bind_ret, Prog.pure_eq_ret, wp_deviceId]
  iapply (ring_send m ρ K c false 1 1 2 21 (by decide) rfl (off25_eq c 0) (dev22_eq c) (rsF_sem (off := ![1]) 1 _ rfl) (rrF_sem (off := ![5]) 1 (jf 1) _ rfl)) $$ HO F1
  iintro HO F1
  iapply (ret_of c (fun _ => True) trivial)
  iintro %r -
  rw [wp_bind, k0_part17_eq_skeleton]; unfold k0_part17_skel
  simp only [semSignalWord, semWaitWord, Prog.lift, Prog.bind_op, Prog.bind_ret, Prog.pure_eq_ret, wp_deviceId]
  iapply (ring_recv m ρ K c true 2 0 3 22 (by decide) ((by decide +kernel : ∀ c, Waitable 22 c (.rr true 2 (jf 0))) c) (rrT_sem (off := ![8]) 2 (jf 0) _ rfl) (N_cut _ _ _)) $$ HO T2
  iintro HO T2
  iapply (ring_wait m ρ K c true 2 0 3 22 (by decide) (rsT_sem (off := ![2]) 2 _ rfl) (N_cut _ _ _)) $$ HO T2
  iintro HO T2
  iapply (ret_of c (fun _ => True) trivial)
  iintro %r -
  rw [wp_bind, k0_part18_eq_skeleton]; unfold k0_part18_skel
  simp only [semSignalWord, semWaitWord, Prog.lift, Prog.bind_op, Prog.bind_ret, Prog.pure_eq_ret, wp_deviceId]
  iapply (ring_send m ρ K c true 2 1 2 22 (by decide) rfl (off26_eq c 0) (dev23_eq c) (rsT_sem (off := ![2]) 2 _ rfl) (rrT_sem (off := ![9]) 2 (jf 1) _ rfl)) $$ HO T2
  iintro HO T2
  iapply (ring_recv m ρ K c false 2 0 2 23 (by decide) ((by decide +kernel : ∀ c, Waitable 23 c (.rr false 2 (jf 0))) c) (rrF_sem (off := ![8]) 2 (jf 0) _ rfl) (N_cut _ _ _)) $$ HO F2
  iintro HO F2
  iapply (ret_of c (fun _ => True) trivial)
  iintro %r -
  rw [wp_bind, k0_part19_eq_skeleton]; unfold k0_part19_skel
  simp only [semSignalWord, semWaitWord, Prog.lift, Prog.bind_op, Prog.bind_ret, Prog.pure_eq_ret, wp_deviceId]
  iapply (ring_wait m ρ K c false 2 0 2 23 (by decide) (rsF_sem (off := ![2]) 2 _ rfl) (N_cut _ _ _)) $$ HO F2
  iintro HO F2
  iapply (ring_send m ρ K c false 2 1 1 23 (by decide) rfl (off27_eq c 0) (dev24_eq c) (rsF_sem (off := ![2]) 2 _ rfl) (rrF_sem (off := ![9]) 2 (jf 1) _ rfl)) $$ HO F2
  iintro HO F2
  iapply (ret_of c (fun _ => True) trivial)
  iintro %r -
  rw [wp_bind, k0_part20_eq_skeleton]; unfold k0_part20_skel
  simp only [semSignalWord, semWaitWord, Prog.lift, Prog.bind_op, Prog.bind_ret, Prog.pure_eq_ret, wp_deviceId]
  iapply (ring_recv m ρ K c true 0 1 2 24 (by decide) ((by decide +kernel : ∀ c, Waitable 24 c (.rr true 0 (jf 1))) c) (rrT_sem (off := ![1]) 0 (jf 1) _ rfl) (N_cut _ _ _)) $$ HO T0
  iintro HO T0
  iapply (ring_wait m ρ K c true 0 1 2 24 (by decide) (rsT_sem (off := ![0]) 0 _ rfl) (N_cut _ _ _)) $$ HO T0
  iintro HO T0
  iapply (ret_of c (fun _ => True) trivial)
  iintro %r -
  rw [wp_bind, k0_part21_eq_skeleton]; unfold k0_part21_skel
  simp only [semSignalWord, semWaitWord, Prog.lift, Prog.bind_op, Prog.bind_ret, Prog.pure_eq_ret, wp_deviceId]
  iapply (ring_send m ρ K c true 0 2 1 24 (by decide) rfl (off22_eq c 1) (dev25_eq c) (rsT_sem (off := ![0]) 0 _ rfl) (rrT_sem (off := ![2]) 0 (jf 2) _ rfl)) $$ HO T0
  iintro HO T0
  iapply (ret_of c (fun _ => True) trivial)
  iintro %r -
  rw [wp_bind, k0_part22_eq_skeleton]; unfold k0_part22_skel
  simp only [semSignalWord, semWaitWord, Prog.lift, Prog.bind_op, Prog.bind_ret, Prog.pure_eq_ret, wp_deviceId]
  iapply (ring_recv m ρ K c false 0 1 1 25 (by decide) ((by decide +kernel : ∀ c, Waitable 25 c (.rr false 0 (jf 1))) c) (rrF_sem (off := ![1]) 0 (jf 1) _ rfl) (N_cut _ _ _)) $$ HO F0
  iintro HO F0
  iapply (ring_wait m ρ K c false 0 1 1 25 (by decide) (rsF_sem (off := ![0]) 0 _ rfl) (N_cut _ _ _)) $$ HO F0
  iintro HO F0
  iapply (ret_of c (fun _ => True) trivial)
  iintro %r -
  rw [wp_bind, k0_part23_eq_skeleton]; unfold k0_part23_skel
  simp only [semSignalWord, semWaitWord, Prog.lift, Prog.bind_op, Prog.bind_ret, Prog.pure_eq_ret, wp_deviceId]
  iapply (ring_send m ρ K c false 0 2 0 25 (by decide) rfl (off23_eq c 1) (dev26_eq c) (rsF_sem (off := ![0]) 0 _ rfl) (rrF_sem (off := ![2]) 0 (jf 2) _ rfl)) $$ HO F0
  iintro HO F0
  iapply (ring_recv m ρ K c true 1 1 1 26 (by decide) ((by decide +kernel : ∀ c, Waitable 26 c (.rr true 1 (jf 1))) c) (rrT_sem (off := ![5]) 1 (jf 1) _ rfl) (N_cut _ _ _)) $$ HO T1
  iintro HO T1
  iapply (ret_of c (fun _ => True) trivial)
  iintro %r -
  rw [wp_bind, k0_part24_eq_skeleton]; unfold k0_part24_skel
  simp only [semSignalWord, semWaitWord, Prog.lift, Prog.bind_op, Prog.bind_ret, Prog.pure_eq_ret, wp_deviceId]
  iapply (ring_wait m ρ K c true 1 1 1 26 (by decide) (rsT_sem (off := ![1]) 1 _ rfl) (N_cut _ _ _)) $$ HO T1
  iintro HO T1
  iapply (ring_send m ρ K c true 1 2 0 26 (by decide) rfl (off24_eq c 1) (dev27_eq c) (rsT_sem (off := ![1]) 1 _ rfl) (rrT_sem (off := ![6]) 1 (jf 2) _ rfl)) $$ HO T1
  iintro HO T1
  iapply (ret_of c (fun _ => True) trivial)
  iintro %r -
  rw [wp_bind, k0_part25_eq_skeleton]; unfold k0_part25_skel
  simp only [semSignalWord, semWaitWord, Prog.lift, Prog.bind_op, Prog.bind_ret, Prog.pure_eq_ret, wp_deviceId]
  iapply (ring_recv m ρ K c false 1 1 2 27 (by decide) ((by decide +kernel : ∀ c, Waitable 27 c (.rr false 1 (jf 1))) c) (rrF_sem (off := ![5]) 1 (jf 1) _ rfl) (N_cut _ _ _)) $$ HO F1
  iintro HO F1
  iapply (ring_wait m ρ K c false 1 1 2 27 (by decide) (rsF_sem (off := ![1]) 1 _ rfl) (N_cut _ _ _)) $$ HO F1
  iintro HO F1
  iapply (ret_of c (fun _ => True) trivial)
  iintro %r -
  rw [wp_bind, k0_part26_eq_skeleton]; unfold k0_part26_skel
  simp only [semSignalWord, semWaitWord, Prog.lift, Prog.bind_op, Prog.bind_ret, Prog.pure_eq_ret, wp_deviceId]
  iapply (ring_send m ρ K c false 1 2 1 27 (by decide) rfl (off25_eq c 1) (dev28_eq c) (rsF_sem (off := ![1]) 1 _ rfl) (rrF_sem (off := ![6]) 1 (jf 2) _ rfl)) $$ HO F1
  iintro HO F1
  iapply (ret_of c (fun _ => True) trivial)
  iintro %r -
  rw [wp_bind, k0_part27_eq_skeleton]; unfold k0_part27_skel
  simp only [semSignalWord, semWaitWord, Prog.lift, Prog.bind_op, Prog.bind_ret, Prog.pure_eq_ret, wp_deviceId]
  iapply (ring_recv m ρ K c true 2 1 2 28 (by decide) ((by decide +kernel : ∀ c, Waitable 28 c (.rr true 2 (jf 1))) c) (rrT_sem (off := ![9]) 2 (jf 1) _ rfl) (N_cut _ _ _)) $$ HO T2
  iintro HO T2
  iapply (ring_wait m ρ K c true 2 1 2 28 (by decide) (rsT_sem (off := ![2]) 2 _ rfl) (N_cut _ _ _)) $$ HO T2
  iintro HO T2
  iapply (ret_of c (fun _ => True) trivial)
  iintro %r -
  rw [wp_bind, k0_part28_eq_skeleton]; unfold k0_part28_skel
  simp only [semSignalWord, semWaitWord, Prog.lift, Prog.bind_op, Prog.bind_ret, Prog.pure_eq_ret, wp_deviceId]
  iapply (ring_send m ρ K c true 2 2 1 28 (by decide) rfl (off26_eq c 1) (dev29_eq c) (rsT_sem (off := ![2]) 2 _ rfl) (rrT_sem (off := ![10]) 2 (jf 2) _ rfl)) $$ HO T2
  iintro HO T2
  iapply (ring_recv m ρ K c false 2 1 1 29 (by decide) ((by decide +kernel : ∀ c, Waitable 29 c (.rr false 2 (jf 1))) c) (rrF_sem (off := ![9]) 2 (jf 1) _ rfl) (N_cut _ _ _)) $$ HO F2
  iintro HO F2
  iapply (ret_of c (fun _ => True) trivial)
  iintro %r -
  rw [wp_bind, k0_part29_eq_skeleton]; unfold k0_part29_skel
  simp only [semSignalWord, semWaitWord, Prog.lift, Prog.bind_op, Prog.bind_ret, Prog.pure_eq_ret, wp_deviceId]
  iapply (ring_wait m ρ K c false 2 1 1 29 (by decide) (rsF_sem (off := ![2]) 2 _ rfl) (N_cut _ _ _)) $$ HO F2
  iintro HO F2
  iapply (ring_send m ρ K c false 2 2 0 29 (by decide) rfl (off27_eq c 1) (dev30_eq c) (rsF_sem (off := ![2]) 2 _ rfl) (rrF_sem (off := ![10]) 2 (jf 2) _ rfl)) $$ HO F2
  iintro HO F2
  iapply (ret_of c (fun _ => True) trivial)
  iintro %r -
  rw [wp_bind, k0_part30_eq_skeleton]; unfold k0_part30_skel
  simp only [semSignalWord, semWaitWord, Prog.lift, Prog.bind_op, Prog.bind_ret, Prog.pure_eq_ret, wp_deviceId]
  iapply (ring_recv m ρ K c true 0 2 1 30 (by decide) ((by decide +kernel : ∀ c, Waitable 30 c (.rr true 0 (jf 2))) c) (rrT_sem (off := ![2]) 0 (jf 2) _ rfl) (N_cut _ _ _)) $$ HO T0
  iintro HO T0
  iapply (ring_wait m ρ K c true 0 2 1 30 (by decide) (rsT_sem (off := ![0]) 0 _ rfl) (N_cut _ _ _)) $$ HO T0
  iintro HO T0
  iapply (ret_of c (fun _ => True) trivial)
  iintro %r -
  rw [wp_bind, k0_part31_eq_skeleton]; unfold k0_part31_skel
  simp only [semSignalWord, semWaitWord, Prog.lift, Prog.bind_op, Prog.bind_ret, Prog.pure_eq_ret, wp_deviceId]
  iapply (ring_send m ρ K c true 0 3 0 30 (by decide) rfl (off22_eq c 2) (dev31_eq c) (rsT_sem (off := ![0]) 0 _ rfl) (rrT_sem (off := ![3]) 0 (jf 3) _ rfl)) $$ HO T0
  iintro HO T0
  iapply (ret_of c (fun _ => True) trivial)
  iintro %r -
  rw [wp_bind, k0_part32_eq_skeleton]; unfold k0_part32_skel
  simp only [semSignalWord, semWaitWord, Prog.lift, Prog.bind_op, Prog.bind_ret, Prog.pure_eq_ret, wp_deviceId]
  iapply (ring_recv m ρ K c false 0 2 0 31 (by decide) ((by decide +kernel : ∀ c, Waitable 31 c (.rr false 0 (jf 2))) c) (rrF_sem (off := ![2]) 0 (jf 2) _ rfl) (N_cut _ _ _)) $$ HO F0
  iintro HO F0
  iapply (ret_of c (fun _ => True) trivial)
  iintro %r -
  rw [wp_bind, k0_part33_eq_skeleton]; unfold k0_part33_skel
  simp only [semSignalWord, semWaitWord, Prog.lift, Prog.bind_op, Prog.bind_ret, Prog.pure_eq_ret, wp_deviceId]
  iapply (ring_recv m ρ K c true 1 2 0 31 (by decide) ((by decide +kernel : ∀ c, Waitable 31 c (.rr true 1 (jf 2))) c) (rrT_sem (off := ![6]) 1 (jf 2) _ rfl) (N_cut _ _ _)) $$ HO T1
  iintro HO T1
  iapply (ring_recv m ρ K c false 1 2 1 31 (by decide) ((by decide +kernel : ∀ c, Waitable 31 c (.rr false 1 (jf 2))) c) (rrF_sem (off := ![6]) 1 (jf 2) _ rfl) (N_cut _ _ _)) $$ HO F1
  iintro HO F1
  iapply (ret_of c (fun _ => True) trivial)
  iintro %r -
  rw [wp_bind, k0_part34_eq_skeleton]; unfold k0_part34_skel
  simp only [semSignalWord, semWaitWord, Prog.lift, Prog.bind_op, Prog.bind_ret, Prog.pure_eq_ret, wp_deviceId]
  iapply (ring_wait m ρ K c false 1 2 1 31 (by decide) (rsF_sem (off := ![1]) 1 _ rfl) (N_cut _ _ _)) $$ HO F1
  iintro HO F1
  iapply (ring_send m ρ K c false 1 3 0 31 (by decide) rfl (off25_eq c 2) (dev32_eq c) (rsF_sem (off := ![1]) 1 _ rfl) (rrF_sem (off := ![7]) 1 (jf 3) _ rfl)) $$ HO F1
  iintro HO F1
  iapply (ret_of c (fun _ => True) trivial)
  iintro %r -
  rw [wp_bind, k0_part35_eq_skeleton]; unfold k0_part35_skel
  simp only [semSignalWord, semWaitWord, Prog.lift, Prog.bind_op, Prog.bind_ret, Prog.pure_eq_ret, wp_deviceId]
  iapply (ring_recv m ρ K c true 2 2 1 32 (by decide) ((by decide +kernel : ∀ c, Waitable 32 c (.rr true 2 (jf 2))) c) (rrT_sem (off := ![10]) 2 (jf 2) _ rfl) (N_cut _ _ _)) $$ HO T2
  iintro HO T2
  iapply (ring_wait m ρ K c true 2 2 1 32 (by decide) (rsT_sem (off := ![2]) 2 _ rfl) (N_cut _ _ _)) $$ HO T2
  iintro HO T2
  iapply (ret_of c (fun _ => True) trivial)
  iintro %r -
  rw [wp_bind, k0_part36_eq_skeleton]; unfold k0_part36_skel
  simp only [semSignalWord, semWaitWord, Prog.lift, Prog.bind_op, Prog.bind_ret, Prog.pure_eq_ret, wp_deviceId]
  iapply (ring_send m ρ K c true 2 3 0 32 (by decide) rfl (off26_eq c 2) (dev33_eq c) (rsT_sem (off := ![2]) 2 _ rfl) (rrT_sem (off := ![11]) 2 (jf 3) _ rfl)) $$ HO T2
  iintro HO T2
  iapply (ret_of c (fun _ => True) trivial)
  iintro %r -
  rw [wp_bind, k0_part37_eq_skeleton]; unfold k0_part37_skel
  simp only [semSignalWord, semWaitWord, Prog.lift, Prog.bind_op, Prog.bind_ret, Prog.pure_eq_ret, wp_deviceId]
  iapply (ring_recv m ρ K c false 2 2 0 33 (by decide) ((by decide +kernel : ∀ c, Waitable 33 c (.rr false 2 (jf 2))) c) (rrF_sem (off := ![10]) 2 (jf 2) _ rfl) (N_cut _ _ _)) $$ HO F2
  iintro HO F2
  iapply (ret_of c (fun _ => True) trivial)
  iintro %r -
  rw [wp_bind, k0_part38_eq_skeleton]; unfold k0_part38_skel
  simp only [semSignalWord, semWaitWord, Prog.lift, Prog.bind_op, Prog.bind_ret, Prog.pure_eq_ret, wp_deviceId]
  iapply (ring_recv m ρ K c true 0 3 0 33 (by decide) ((by decide +kernel : ∀ c, Waitable 33 c (.rr true 0 (jf 3))) c) (rrT_sem (off := ![3]) 0 (jf 3) _ rfl) (N_cut _ _ _)) $$ HO T0
  iintro HO T0
  iapply (ring_recv m ρ K c false 1 3 0 33 (by decide) ((by decide +kernel : ∀ c, Waitable 33 c (.rr false 1 (jf 3))) c) (rrF_sem (off := ![7]) 1 (jf 3) _ rfl) (N_cut _ _ _)) $$ HO F1
  iintro HO F1
  iapply (ret_of c (fun _ => True) trivial)
  iintro %r -
  rw [wp_bind, k0_part39_eq_skeleton]; unfold k0_part39_skel
  simp only [semSignalWord, semWaitWord, Prog.lift, Prog.bind_op, Prog.bind_ret, Prog.pure_eq_ret, wp_deviceId]
  iapply (ring_recv m ρ K c true 2 3 0 33 (by decide) ((by decide +kernel : ∀ c, Waitable 33 c (.rr true 2 (jf 3))) c) (rrT_sem (off := ![11]) 2 (jf 3) _ rfl) (N_cut _ _ _)) $$ HO T2
  iintro HO T2
  iapply (wait_own m ρ K c 33 true 0 rfl (cond9_eq c) (zs_sem (off := ![0]) 0 _ rfl) (fun h => N_gM)) $$ HO S0 U
  iintro HO U Zs0
  iapply (wait_own m ρ K c 33 false 1 rfl (cond10_eq c) (zs_sem (off := ![1]) 1 _ rfl) (fun h => N_gM)) $$ HO S1 D
  iintro HO D Zs1
  iapply (ret_of c (fun _ => True) trivial)
  iintro %r -
  rw [wp_bind, k0_part40_eq_skeleton]; unfold k0_part40_skel
  simp only [semSignalWord, semWaitWord, Prog.lift, Prog.bind_op, Prog.bind_ret, Prog.pure_eq_ret, wp_deviceId]
  iapply (wait_fwd m ρ K c 33 0 2 rfl (cond11_eq c) (zs_sem (off := ![2]) 2 _ rfl) (fun h => N_cut _ (k0_off30_inb c h) _)) $$ HO S2 U0 D0
  iintro HO U0 Zs2
  iapply (ring_wait m ρ K c true 0 3 0 33 (by decide) (rsT_sem (off := ![0]) 0 _ rfl) (N_cut _ _ _)) $$ HO T0
  iintro HO T0
  iapply (ret_of c (fun _ => True) trivial)
  iintro %r -
  rw [wp_bind, k0_part41_eq_skeleton]; unfold k0_part41_skel
  simp only [semSignalWord, semWaitWord, Prog.lift, Prog.bind_op, Prog.bind_ret, Prog.pure_eq_ret, wp_deviceId]
  iapply (ring_wait m ρ K c false 0 2 0 33 (by decide) (rsF_sem (off := ![0]) 0 _ rfl) (N_cut _ _ _)) $$ HO F0
  iintro HO F0
  iapply (wait_fwd m ρ K c 33 1 3 rfl (cond12_eq c) (zs_sem (off := ![3]) 3 _ rfl) (fun h => N_cut _ (k0_off31_inb c h) _)) $$ HO S3 U1 D1
  iintro HO U1 Zs3
  iapply (ret_of c (fun _ => True) trivial)
  iintro %r -
  rw [wp_bind, k0_part42_eq_skeleton]; unfold k0_part42_skel
  simp only [semSignalWord, semWaitWord, Prog.lift, Prog.bind_op, Prog.bind_ret, Prog.pure_eq_ret, wp_deviceId]
  iapply (ring_wait m ρ K c true 1 2 0 33 (by decide) (rsT_sem (off := ![1]) 1 _ rfl) (N_cut _ _ _)) $$ HO T1
  iintro HO T1
  iapply (ring_wait m ρ K c false 1 3 0 33 (by decide) (rsF_sem (off := ![1]) 1 _ rfl) (N_cut _ _ _)) $$ HO F1
  iintro HO F1
  iapply (ret_of c (fun _ => True) trivial)
  iintro %r -
  rw [wp_bind, k0_part43_eq_skeleton]; unfold k0_part43_skel
  simp only [semSignalWord, semWaitWord, Prog.lift, Prog.bind_op, Prog.bind_ret, Prog.pure_eq_ret, wp_deviceId]
  iapply (wait_fwd m ρ K c 33 2 4 rfl (cond13_eq c) (zs_sem (off := ![4]) 4 _ rfl) (fun h => N_cut _ (k0_off32_inb c h) _)) $$ HO S4 U2 D2
  iintro HO U2 Zs4
  iapply (ring_wait m ρ K c true 2 3 0 33 (by decide) (rsT_sem (off := ![2]) 2 _ rfl) (N_cut _ _ _)) $$ HO T2
  iintro HO T2
  iapply (ret_of c (fun _ => True) trivial)
  iintro %r -
  rw [wp_bind, k0_part44_eq_skeleton]; unfold k0_part44_skel
  simp only [semSignalWord, semWaitWord, Prog.lift, Prog.bind_op, Prog.bind_ret, Prog.pure_eq_ret, wp_deviceId]
  iapply (ring_wait m ρ K c false 2 2 0 33 (by decide) (rsF_sem (off := ![2]) 2 _ rfl) (N_cut _ _ _)) $$ HO F2
  iintro HO F2
  iapply (signal_step m ρ K c 33 (.ex 0) rfl rfl (t1 := nb 0 c) (t2 := .ex) rfl 0 (Finset.mem_univ _) rfl (dev34_eq c) rfl rfl) $$ HO He0 []
  · iapply (show (iprop(emp) : sProp 𝕄) ⊢ payC m ρ (nb 0 c) 0 0 .ex from BI.Entails.refl _); iempintro
  iintro HO
  iapply (signal_step m ρ K c 34 (.ex 1) rfl rfl (t1 := nb 1 c) (t2 := .ex) rfl 1 (Finset.mem_univ _) rfl (dev35_eq c) rfl rfl) $$ HO He1 []
  · iapply (show (iprop(emp) : sProp 𝕄) ⊢ payC m ρ (nb 1 c) 0 1 .ex from BI.Entails.refl _); iempintro
  iintro HO
  iapply (ret_of c (fun _ => True) trivial)
  iintro %r -
  iapply (signal_step m ρ K c 35 (.ex 2) rfl rfl (t1 := nb 2 c) (t2 := .ex) rfl 2 (Finset.mem_univ _) rfl (dev36_eq c) rfl rfl) $$ HO He2 []
  · iapply (show (iprop(emp) : sProp 𝕄) ⊢ payC m ρ (nb 2 c) 0 2 .ex from BI.Entails.refl _); iempintro
  iintro HO
  iapply (ret_of c (fun r => r.1 = c) rfl)
  iintro %r9 %hr9
  obtain ⟨d9, r9⟩ := r9
  obtain rfl : c = d9 := hr9.symm
  iapply (signal_step m ρ K c 36 (.ex 3) rfl rfl (t1 := nb 3 c) (t2 := .ex) rfl 3 (Finset.mem_univ _) rfl (dev37_eq c) rfl rfl) $$ HO He3 []
  · iapply (show (iprop(emp) : sProp 𝕄) ⊢ payC m ρ (nb 3 c) 0 3 .ex from BI.Entails.refl _); iempintro
  iintro HO
  iapply (wait_step m ρ K c 37 .ex 0 ((by decide +kernel : ∀ c, Waitable 37 c .ex) c) (sm := .reg (0 : Fin 2)) (k' := 4) rfl (wpE_semWait_eq 𝒱₀ (c : Thread nD τ) none Set.univ) rfl) $$ HO Hce Hate
  iintro HO Hate - -
  imod (close m ρ K c .ex (0 + 1) (fun r' hr => if_neg fun h => by omega)) $$ HR Hate with Ze
  imod (ring_done4 m ρ K c true 0 rfl) $$ HR T0 with ⟨T0, ZT0⟩
  imod (ring_done3 m ρ K c true 1 rfl) $$ HR T1 X1 with ⟨T1, ZT1⟩
  imod (ring_done4 m ρ K c true 2 rfl) $$ HR T2 with ⟨T2, ZT2⟩
  imod (ring_done3 m ρ K c false 0 rfl) $$ HR F0 X0 with ⟨F0, ZF0⟩
  imod (ring_done4 m ρ K c false 1 rfl) $$ HR F1 with ⟨F1, ZF1⟩
  imod (ring_done3 m ρ K c false 2 rfl) $$ HR F2 X2 with ⟨F2, ZF2⟩
  rw [wp_ret]; imodintro
  iapply HK
  unfold done
  isplitl [Hx]; · iexact Hx
  isplitl [Ho U0 T0 F0 U1 T1 F1 U2 T2 F2]
  · iapply (gathered m ρ c)
    unfold chunkAll
    isplitl [Ho]; · iexact Ho
    isplitl [U0 T0 F0]
    · isplitl [U0]; · iexact U0
      isplitl [T0] <;> iassumption
    isplitl [U1 T1 F1]
    · isplitl [U1]; · iexact U1
      isplitl [T1] <;> iassumption
    isplitl [U2]; · iexact U2
    isplitl [T2] <;> iassumption
  isplitl [U D]
  · iexists (stgc m ρ c)
    iapply (Entails.of_eq (stage_whole c _))
    iapply (stage_half c _).2
    isplitl [U]
    · iapply (show zsrc m ρ c true none ⊢ stage c fullShare.left (stgc m ρ c) from BI.Entails.refl _); iexact U
    · iapply (show zsrc m ρ c false none ⊢ stage c fullShare.right (stgc m ρ c) from BI.Entails.refl _); iexact D
  isplitl [Zb Ze Zs0 Zs1 Zs2 Zs3 Zs4 Zr0 Zr1 Zr2 ZT0 ZT1 ZT2 ZF0 ZF1 ZF2]
  · iapply (rest_intro c)
    isplitl [Zb]; · iexact Zb
    isplitl [Ze]; · iexact Ze
    isplitl [Zs0 Zs1 Zs2 Zs3 Zs4]
    · isplitl [Zs0]; · iexact Zs0
      isplitl [Zs1]; · iexact Zs1
      isplitl [Zs2]; · iexact Zs2
      isplitl [Zs3] <;> iassumption
    isplitl [Zr0 Zr1 Zr2]
    · isplitl [Zr0]; · iexact Zr0
      isplitl [Zr1] <;> iassumption
    isplitl [ZT0]; · iexact ZT0
    isplitl [ZT1]; · iexact ZT1
    isplitl [ZT2]; · iexact ZT2
    isplitl [ZF0]; · iexact ZF0
    isplitl [ZF1] <;> iassumption
  unfold HO
  icases HO with ⟨-, -, HO⟩
  iexact HO
end Cert.KernelIdeal.Coll
end
-- ==== Proof.Deal.lean ====
/-
  The launch deals each device what its run takes: the tokens of the payments it makes, the credit of those made to it,
  and its cells' first places.
-/
module
public import proofs.«01_k».proof.Proof.Kit
public import Idealize.ShloMosaic.Lib.Pipeline.BigSepL
@[expose] public section
noncomputable section
namespace Cert.KernelIdeal.Coll
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

/-! ## The tokens -/

/-- Which of its cell's duties a payment is. -/
def dk : P → Fin 4
  | .bar k => k
  | .ex k => k
  | _ => 0
/-- The cell of its own, and the round, a transfer completes on at its sender. -/
def psrc : P → Ce × ℕ
  | .z u q => (.zs (zi u q), 0)
  | .rg w d j => (.rs w d, j.val)
  | _ => (.bar, 0)
/-- The duty of a payment: at the peer (`true`) or, of a transfer, at the payer itself. -/
def duty (c : Dev nD) (x : P × Bool) : (Dev nD × Ce) × ℕ × Fin 4 :=
  if x.2 then (ptgt c x.1, 0, dk x.1) else ((c, (psrc x.1).1), (psrc x.1).2, 0)

/-- The duties of a line send, of a ring's first `n` sends. -/
def zL (u : Bool) (q : Option (Fin 3)) : List (P × Bool) := [(.z u q, false), (.z u q, true)]
def rL (w : Bool) (d : Fin 3) : ℕ → ℕ → List (P × Bool)
  | 0, _ => []
  | n + 1, j => (.rg w d (jf j), false) :: (.rg w d (jf j), true) :: rL w d n (j + 1)
def bL : List (P × Bool) := [(.bar 0, true), (.bar 1, true), (.bar 2, true), (.bar 3, true)]
def eL : List (P × Bool) := [(.ex 0, true), (.ex 1, true), (.ex 2, true), (.ex 3, true)]
/-- Every duty, by what takes it. -/
def dutyL : List (P × Bool) :=
  bL ++ (eL ++ (zL true none ++ (zL false none ++ (zL true (some 0) ++ (zL false (some 0) ++ (zL true (some 1) ++ (zL false (some 1)
    ++ (zL true (some 2) ++ (zL false (some 2) ++ (rL true 0 (hops true 0) 0 ++ (rL true 1 (hops true 1) 0 ++ (rL true 2 (hops true 2) 0
    ++ (rL false 0 (hops false 0) 0 ++ (rL false 1 (hops false 1) 0 ++ rL false 2 (hops false 2) 0))))))))))))))

/-- Which payment a duty is of. -/
def payer (y : (Dev nD × Ce) × ℕ × Fin 4) : Dev nD × P × Bool :=
  let t := y.1.1
  match y.1.2 with
  | .bar => (nbi y.2.2 t, .bar y.2.2, true)
  | .ex => (nbi y.2.2 t, .ex y.2.2, true)
  | .rr w d j => (nx (!w) t, .rg w d j, true)
  | .rs w d => (t, .rg w d (jf y.2.1), false)
  | .zs i => (t, if i = 0 then .z true none else if i = 1 then .z false none else
      .z (zfA true ⟨(i.val - 2) % 3, Nat.mod_lt _ (by decide)⟩ t) (some ⟨(i.val - 2) % 3, Nat.mod_lt _ (by decide)⟩), false)
  | .zr d =>
      let ch := chf (zc t) d
      let u := decide (ch < zc t)
      let s := zn (!u) t
      (s, .z u (if zc s = ch then none else some (di (zc s) ch)), true)

/-- The payer of a duty is found again from the duty. -/
theorem payer_duty : ∀ (c : Dev nD), ∀ x ∈ dutyL, pact c x.1 = true → payer (duty c x) = (c, x) := by decide +kernel
/-- A device's duties are listed without repetition. -/
theorem dutyL_nodup : dutyL.Nodup := by decide +kernel

/-- Different cells of different devices are different semaphores. -/
theorem kcell_injective : Function.Injective (kcell : Dev nD × Ce → GSem nD τ sig) := by
  rintro ⟨c, k⟩ ⟨c', k'⟩ h
  have h1 : c = c' := by have := congrArg (fun g : GSem nD τ sig => g.1.1) h; exact this
  subst h1
  have h2 : csem k = csem k' := congrArg (fun g : GSem nD τ sig => g.2) h
  exact congrArg (Prod.mk c) (csem_inj h2)

/-- The duty, at its cell. -/
def dutyAt (y : Dev nD × P × Bool) : GSem nD τ sig × ℕ × Fin 4 :=
  (kcell (duty y.1 y.2).1, (duty y.1 y.2).2)
/-- Every duty some device pays. -/
def duties : Finset (Dev nD × P × Bool) := (Finset.univ ×ˢ dutyL.toFinset).filter fun y => pact y.1 y.2.1 = true

/-- Different payers and duties are different tokens. -/
theorem dutyAt_injOn : Set.InjOn dutyAt (duties : Set (Dev nD × P × Bool)) := by
  rintro ⟨c, x⟩ hx ⟨c', x'⟩ hx' h
  have hx := Finset.mem_filter.mp hx
  have hx' := Finset.mem_filter.mp hx'
  have h1 : duty c x = duty c' x' := by
    have e1 : kcell (duty c x).1 = kcell (duty c' x').1 := congrArg (fun y : GSem nD τ sig × ℕ × Fin 4 => y.1) h
    have e2 : (duty c x).2 = (duty c' x').2 := congrArg (fun y : GSem nD τ sig × ℕ × Fin 4 => y.2) h
    exact Prod.ext (kcell_injective e1) e2
  rw [← payer_duty c x (List.mem_toFinset.mp (Finset.mem_product.mp hx.1).2) hx.2, h1,
    payer_duty c' x' (List.mem_toFinset.mp (Finset.mem_product.mp hx'.1).2) hx'.2]

def allCells : Finset (GSem nD τ sig) := Finset.univ.map ⟨kcell, kcell_injective⟩
def allToks : Finset (GSem nD τ sig × ℕ × Fin 4) := duties.image dutyAt

/-- The token of a duty, if the device pays it. -/
def tokIf (x : P × Bool) : sProp 𝕄 :=
  if pact c x.1 = true then dutyTok ER (kcell (duty c x).1) (duty c x).2.1 (duty c x).2.2 else iprop(emp)
/-- The tokens of the payments the device makes. -/
def payToks : sProp 𝕄 := bigSepL dutyL (tokIf c)

omit [FloatOps F] in
/-- The minted tokens are those of the payments, device by device. -/
theorem toks_deal : bigSep allToks (fun x => (dutyTok ER x.1 x.2.1 x.2.2 : sProp 𝕄)) = bigSep Finset.univ fun c : Dev nD => payToks c := by
  unfold allToks
  rw [bigSep_image_of_injOn dutyAt_injOn]
  unfold duties
  rw [bigSep_filter, Finset.product_eq_biUnion, bigSep_biUnion_eq _ _ _ fun a _ b _ hab => Finset.disjoint_left.mpr fun y hy hy' => by
    obtain ⟨_, _, rfl⟩ := Finset.mem_image.mp hy
    obtain ⟨_, _, e⟩ := Finset.mem_image.mp hy'
    exact hab (congrArg Prod.fst e).symm]
  refine bigSep_congr fun c _ => ?_
  rw [bigSep_image_of_injOn fun x _ y _ e => congrArg Prod.snd e]
  exact bigSep_eq_bigSepL_of_eq dutyL rfl dutyL_nodup _

omit [FloatOps F] in
/-- The tokens of a line send, of those dealt. -/
theorem ztok_of (u : Bool) (q : Option (Fin 3)) : bigSepL (zL u q) (tokIf (F := F) c) ⊢ ztok c u q := by
  show iprop((if zact u q c = true then dutyTok ER (kcell (c, .zs (zi u q))) 0 0 else iprop(emp))
    ∗ (if zact u q c = true then dutyTok ER (kcell (zn u c, .zr (zto u q c))) 0 0 else iprop(emp))) ⊢ _
  unfold ztok
  split
  · exact BI.Entails.refl _
  · exact Laws.sep_elim_left

omit [FloatOps F] in
/-- The tokens of a run of ring sends, of those dealt. -/
theorem rtok_of (w : Bool) (d : Fin 3) : ∀ n j : ℕ, j + n ≤ hops w d → bigSepL (rL w d n j) (tokIf (F := F) c) ⊢ run (rtok c w d) n j
  | 0, _, _ => BI.Entails.refl _
  | n + 1, j, h => by
    have hj : (jf j).val = j := jf_val (by omega : j < hops w d)
    have ha : pact c (.rg w d (jf j)) = true := decide_eq_true (by rw [hj]; omega)
    rw [show rL w d (n + 1) j = (.rg w d (jf j), false) :: (.rg w d (jf j), true) :: rL w d n (j + 1) from rfl, bigSepL_cons', bigSepL_cons']
    have e1 : tokIf (F := F) c (.rg w d (jf j), false) = dutyTok ER (kcell (c, .rs w d)) j 0 := by
      unfold tokIf; rw [if_pos ha]; show dutyTok ER (kcell (c, .rs w d)) (jf j).val 0 = _; rw [hj]
    have e2 : tokIf (F := F) c (.rg w d (jf j), true) = dutyTok ER (kcell (nx w c, .rr w d (jf j))) 0 0 := by
      unfold tokIf; rw [if_pos ha]; rfl
    rw [e1, e2]
    show _ ⊢ iprop(rtok c w d j ∗ run (rtok c w d) n (j + 1))
    unfold rtok
    iintro ⟨H1, H2, H3⟩
    isplitl [H1 H2]; · isplitl [H1] <;> iassumption
    iapply (rtok_of w d n (j + 1) (by omega)); iexact H3

/-! ## The credit -/

/-- What is paid to a device: each cell, once for every payment of its round. -/
def rS (w : Bool) (d : Fin 3) : ℕ → ℕ → List (Ce × Fin 4)
  | 0, _ => []
  | n + 1, j => (.rr w d (jf j), 0) :: rS w d n (j + 1)
def bS : List (Ce × Fin 4) := [(.bar, 0), (.bar, 1), (.bar, 2), (.bar, 3)]
def eS : List (Ce × Fin 4) := [(.ex, 0), (.ex, 1), (.ex, 2), (.ex, 3)]
def zS : List (Ce × Fin 4) := [(.zr 0, 0), (.zr 1, 0), (.zr 2, 0)]
def slotL : List (Ce × Fin 4) :=
  bS ++ (eS ++ (zS ++ (rS true 0 (hops true 0) 0 ++ (rS true 1 (hops true 1) 0 ++ (rS true 2 (hops true 2) 0
    ++ (rS false 0 (hops false 0) 0 ++ (rS false 1 (hops false 1) 0 ++ rS false 2 (hops false 2) 0)))))))
/-- The credits that a device waits for are listed without repetition. -/
theorem slotL_nodup : slotL.Nodup := by decide +kernel
/-- The payments that a device makes are listed without repetition. -/
theorem pl_nodup : pl.Nodup := by decide +kernel

/-- The slot a payment fills, and the payment that fills a slot. -/
def fills (y : Dev nD × P) : Dev nD × Ce × Fin 4 := ((ptgt y.1 y.2).1, (ptgt y.1 y.2).2, dk y.2)
def filler (y : Dev nD × Ce × Fin 4) : Dev nD × P := ((payer ((y.1, y.2.1), 0, y.2.2)).1, (payer ((y.1, y.2.1), 0, y.2.2)).2.1)
/-- A payment fills a listed credit, and is found again from it. -/
theorem fills_mem : ∀ (c : Dev nD), ∀ p ∈ pl, pact c p = true → (fills (c, p)).2 ∈ slotL ∧ filler (fills (c, p)) = (c, p) := by decide +kernel
/-- A listed credit is filled by a payment that is made, and is found again from it. -/
theorem filler_mem : ∀ (c : Dev nD), ∀ x ∈ slotL, (filler (c, x)).2 ∈ pl ∧ pact (filler (c, x)).1 (filler (c, x)).2 = true ∧ fills (filler (c, x)) = (c, x) := by
  decide +kernel

/-- All that is paid to the device. -/
def dueL : List (Ce × Fin 4) → CellTallies nD τ sig Unit
  | [] => 0
  | x :: l => tallyAt (kcell (c, x.1)) () (amtC x.1) + dueL l

/-- What a list of credits comes to is the sum of their amounts. -/
theorem dueL_eq (l : List (Ce × Fin 4)) : dueL c l = (l.map fun x => (tallyAt (kcell (c, x.1)) () (amtC x.1) : CellTallies nD τ sig Unit)).sum := by
  induction l with
  | nil => rfl
  | cons x l ih => rw [List.map_cons, List.sum_cons, ← ih]; rfl

/-- What the devices owe is what they are due. -/
theorem owed_due : (∑ c : Dev nD, owedN c 0) = ∑ c : Dev nD, dueL c slotL := by
  have h1 : ∀ c : Dev nD, owedN c 0 = ∑ p ∈ pl.toFinset, pay c p := fun c => (List.sum_toFinset (pay c) pl_nodup).symm
  have h2 : ∀ c : Dev nD, dueL c slotL = ∑ x ∈ slotL.toFinset, (tallyAt (kcell (c, x.1)) () (amtC x.1) : CellTallies nD τ sig Unit) :=
    fun c => (dueL_eq c slotL).trans (List.sum_toFinset _ slotL_nodup).symm
  simp only [h1, h2]
  rw [← Finset.sum_product', ← Finset.sum_product']
  unfold pay
  rw [← Finset.sum_filter (s := Finset.univ ×ˢ pl.toFinset) (fun y : Dev nD × P => pact y.1 y.2 = true)
    (fun y => (tallyAt (kcell (ptgt y.1 y.2)) () (amtC (ptgt y.1 y.2).2) : CellTallies nD τ sig Unit))]
  refine Finset.sum_nbij' fills filler ?_ ?_ ?_ ?_ ?_
  · rintro ⟨c, p⟩ h
    have h := Finset.mem_filter.mp h
    exact Finset.mem_product.mpr ⟨Finset.mem_univ _, List.mem_toFinset.mpr (fills_mem c p (List.mem_toFinset.mp (Finset.mem_product.mp h.1).2) h.2).1⟩
  · rintro ⟨c, x⟩ h
    have h := filler_mem c x (List.mem_toFinset.mp (Finset.mem_product.mp h).2)
    exact Finset.mem_filter.mpr ⟨Finset.mem_product.mpr ⟨Finset.mem_univ _, List.mem_toFinset.mpr h.1⟩, h.2.1⟩
  · rintro ⟨c, p⟩ h
    have h := Finset.mem_filter.mp h
    exact (fills_mem c p (List.mem_toFinset.mp (Finset.mem_product.mp h.1).2) h.2).2
  · rintro ⟨c, x⟩ h
    exact (filler_mem c x (List.mem_toFinset.mp (Finset.mem_product.mp h).2)).2.2
  · rintro ⟨c, p⟩ _
    rfl

/-- What a device is due is due at its own cells. -/
theorem dueL_own (l : List (Ce × Fin 4)) (g : GSem nD τ sig) (h : dueL c l g ≠ 0) : g.1 = (c.tc : Thread nD τ) := by
  induction l with
  | nil => exact absurd rfl h
  | cons x l ih =>
    by_cases hg : g = kcell (c, x.1)
    · rw [hg]
    · refine ih fun h0 => h ?_
      show (tallyAt (kcell (c, x.1)) () (amtC x.1) + dueL c l) g = 0
      rw [Pi.add_apply, h0, tallyAt_ne_cell hg, add_zero]

/-- One payment's credit at its slot. -/
def slot (x : Ce × Fin 4) : sProp 𝕄 := cred (tallyAt (kcell (c, x.1)) () (amtC x.1))

omit [FloatOps F] in
/-- Credit for a list, one by one. -/
theorem cred_slots (l : List (Ce × Fin 4)) : (cred (dueL c l) : sProp 𝕄) ⊢ bigSepL l (slot c) := by
  induction l with
  | nil => exact Laws.true_intro
  | cons x l ih =>
    rw [bigSepL_cons']
    exact (cred_add _ _).1.trans (sep_mono_right ih)

omit [FloatOps F] in
/-- Four units of credit are a credit of four. -/
theorem cred_four (g : GSem nD τ sig) :
    iprop(cred (tallyAt g () 1) ∗ cred (tallyAt g () 1) ∗ cred (tallyAt g () 1) ∗ cred (tallyAt g () 1)) ⊢ (cred (tallyAt g () 4) : sProp 𝕄) := by
  rw [show (tallyAt g () 4 : CellTallies nD τ sig Unit) = tallyAt g () 1 + (tallyAt g () 1 + (tallyAt g () 1 + tallyAt g () 1)) from by
    rw [tallyAt_add, tallyAt_add, tallyAt_add]]
  exact (sep_mono_right ((sep_mono_right (cred_add _ _).2).trans (cred_add _ _).2)).trans (cred_add _ _).2

omit [FloatOps F] in
/-- A device's launch credit is that of the payments made to it. -/
theorem launch_slots : (Pipeline.launchCred (fun c => owedN c 0) c : sProp 𝕄) ⊢ bigSepL slotL (slot c) :=
  (Entails.of_eq (Pipeline.launchCred_of_sum (fun c => owedN c 0) (fun c => dueL c slotL) owed_due (fun d g h => dueL_own d slotL g h) c)).trans
    (cred_slots c slotL)

/-! ## The kits -/

omit [FloatOps F] in
/-- A ring of four steps. -/
theorem ring_kit4 (w : Bool) (d : Fin 3) (h : hops w d = 4) :
    iprop(at0 c (.rs w d) ∗ at0 c (.rr w d 0) ∗ at0 c (.rr w d 1) ∗ at0 c (.rr w d 2) ∗ at0 c (.rr w d 3)
      ∗ bigSepL (rL w d (hops w d) 0) (tokIf c) ∗ bigSepL (rS w d (hops w d) 0) (slot c)) ⊢ ringKit (F := F) c w d := by
  have e := rtok_of (F := F) c w d (hops w d) 0 (by omega)
  unfold ringKit
  rw [h] at e ⊢
  rw [show run (rget (F := F) c w d) 4 0 = iprop(rget c w d 0 ∗ rget c w d 1 ∗ rget c w d 2 ∗ rget c w d 3 ∗ emp) from rfl]
  unfold rget
  rw [show bigSepL (rS w d 4 0) (slot (F := F) c) = iprop(cred (tallyAt (kcell (c, .rr w d (jf 0))) () N) ∗ cred (tallyAt (kcell (c, .rr w d (jf 1))) () N)
    ∗ cred (tallyAt (kcell (c, .rr w d (jf 2))) () N) ∗ cred (tallyAt (kcell (c, .rr w d (jf 3))) () N)) from rfl]
  iintro ⟨Hs, H0, H1, H2, H3, Ht, C0, C1, C2, C3⟩
  isplitl [Hs]; · iexact Hs
  isplitl [Ht]; · iapply e; iexact Ht
  isplitl [H0 C0]; · isplitl [H0] <;> iassumption
  isplitl [H1 C1]; · isplitl [H1] <;> iassumption
  isplitl [H2 C2]; · isplitl [H2] <;> iassumption
  isplitl [H3 C3]; · isplitl [H3] <;> iassumption
  iempintro

omit [FloatOps F] in
/-- A ring of three steps; its last cell is spare. -/
theorem ring_kit3 (w : Bool) (d : Fin 3) (h : hops w d = 3) :
    iprop(at0 c (.rs w d) ∗ at0 c (.rr w d 0) ∗ at0 c (.rr w d 1) ∗ at0 c (.rr w d 2)
      ∗ bigSepL (rL w d (hops w d) 0) (tokIf c) ∗ bigSepL (rS w d (hops w d) 0) (slot c)) ⊢ ringKit (F := F) c w d := by
  have e := rtok_of (F := F) c w d (hops w d) 0 (by omega)
  unfold ringKit
  rw [h] at e ⊢
  rw [show run (rget (F := F) c w d) 3 0 = iprop(rget c w d 0 ∗ rget c w d 1 ∗ rget c w d 2 ∗ emp) from rfl]
  unfold rget
  rw [show bigSepL (rS w d 3 0) (slot (F := F) c) = iprop(cred (tallyAt (kcell (c, .rr w d (jf 0))) () N) ∗ cred (tallyAt (kcell (c, .rr w d (jf 1))) () N)
    ∗ cred (tallyAt (kcell (c, .rr w d (jf 2))) () N)) from rfl]
  iintro ⟨Hs, H0, H1, H2, Ht, C0, C1, C2⟩
  isplitl [Hs]; · iexact Hs
  isplitl [Ht]; · iapply e; iexact Ht
  isplitl [H0 C0]; · isplitl [H0] <;> iassumption
  isplitl [H1 C1]; · isplitl [H1] <;> iassumption
  isplitl [H2 C2]; · isplitl [H2] <;> iassumption
  iempintro

set_option maxHeartbeats 1000000 in
omit [FloatOps F] in
/-- The cells' places, the tokens and the credits make the device's kit. -/
theorem kits_intro : iprop(bigSep Finset.univ (fun k : Ce => at0 (F := F) c k) ∗ payToks c ∗ bigSepL slotL (slot c)) ⊢ kits c := by
  unfold payToks dutyL slotL
  simp only [bigSepL_append]
  rw [bigSep_univ_eq_bigSepL Ce.all (Finset.ext fun k => by simp [Ce.mem_all]) Ce.nodup_all]
  rw [show bigSepL Ce.all (fun k => at0 (F := F) c k) = iprop(at0 c .bar ∗ at0 c .ex ∗ at0 c (.zs 0) ∗ at0 c (.zs 1) ∗ at0 c (.zs 2) ∗ at0 c (.zs 3) ∗ at0 c (.zs 4) ∗ at0 c (.zr 0) ∗ at0 c (.zr 1) ∗ at0 c (.zr 2) ∗ at0 c (.rs true 0) ∗ at0 c (.rs true 1) ∗ at0 c (.rs true 2) ∗ at0 c (.rs false 0) ∗ at0 c (.rs false 1) ∗ at0 c (.rs false 2) ∗ at0 c (.rr true 0 0) ∗ at0 c (.rr true 0 1) ∗ at0 c (.rr true 0 2) ∗ at0 c (.rr true 0 3) ∗ at0 c (.rr true 1 0) ∗ at0 c (.rr true 1 1) ∗ at0 c (.rr true 1 2) ∗ at0 c (.rr true 1 3) ∗ at0 c (.rr true 2 0) ∗ at0 c (.rr true 2 1) ∗ at0 c (.rr true 2 2) ∗ at0 c (.rr true 2 3) ∗ at0 c (.rr false 0 0) ∗ at0 c (.rr false 0 1) ∗ at0 c (.rr false 0 2) ∗ at0 c (.rr false 0 3) ∗ at0 c (.rr false 1 0) ∗ at0 c (.rr false 1 1) ∗ at0 c (.rr false 1 2) ∗ at0 c (.rr false 1 3) ∗ at0 c (.rr false 2 0) ∗ at0 c (.rr false 2 1) ∗ at0 c (.rr false 2 2) ∗ at0 c (.rr false 2 3)) from rfl,
    show bigSepL bL (tokIf (F := F) c) = iprop(dutyTok ER (kcell (nb 0 c, .bar)) 0 0 ∗ dutyTok ER (kcell (nb 1 c, .bar)) 0 1 ∗ dutyTok ER (kcell (nb 2 c, .bar)) 0 2 ∗ dutyTok ER (kcell (nb 3 c, .bar)) 0 3) from rfl,
    show bigSepL eL (tokIf (F := F) c) = iprop(dutyTok ER (kcell (nb 0 c, .ex)) 0 0 ∗ dutyTok ER (kcell (nb 1 c, .ex)) 0 1 ∗ dutyTok ER (kcell (nb 2 c, .ex)) 0 2 ∗ dutyTok ER (kcell (nb 3 c, .ex)) 0 3) from rfl,
    show bigSepL bS (slot (F := F) c) = iprop(cred (tallyAt (kcell (c, .bar)) () 1) ∗ cred (tallyAt (kcell (c, .bar)) () 1) ∗ cred (tallyAt (kcell (c, .bar)) () 1) ∗ cred (tallyAt (kcell (c, .bar)) () 1)) from rfl,
    show bigSepL eS (slot (F := F) c) = iprop(cred (tallyAt (kcell (c, .ex)) () 1) ∗ cred (tallyAt (kcell (c, .ex)) () 1) ∗ cred (tallyAt (kcell (c, .ex)) () 1) ∗ cred (tallyAt (kcell (c, .ex)) () 1)) from rfl,
    show bigSepL zS (slot (F := F) c) = iprop(cred (tallyAt (kcell (c, .zr 0)) () N) ∗ cred (tallyAt (kcell (c, .zr 1)) () N) ∗ cred (tallyAt (kcell (c, .zr 2)) () N)) from rfl]
  iintro ⟨⟨Abar, Aex, Azs0, Azs1, Azs2, Azs3, Azs4, Azr0, Azr1, Azr2, ArsT0, ArsT1, ArsT2, ArsF0, ArsF1, ArsF2, ArrT00, ArrT01, ArrT02, ArrT03, ArrT10, ArrT11, ArrT12, ArrT13, ArrT20, ArrT21, ArrT22, ArrT23, ArrF00, ArrF01, ArrF02, ArrF03, ArrF10, ArrF11, ArrF12, ArrF13, ArrF20, ArrF21, ArrF22, ArrF23⟩, ⟨Tb, Te, Zu, Zd, Zu0, Zd0, Zu1, Zd1, Zu2, Zd2, T0, T1, T2, T3, T4, T5⟩, Cb, Ce, ⟨Cz0, Cz1, Cz2⟩, C0, C1, C2, C3, C4, C5⟩
  unfold kits barKit exKit linKit
  isplitl [Abar Tb Cb]
  · isplitl [Abar]; · iexact Abar
    isplitl [Cb]; · iapply (cred_four (F := F) (kcell (c, .bar))); iexact Cb
    iexact Tb
  isplitl [Aex Te Ce]
  · isplitl [Aex]; · iexact Aex
    isplitl [Ce]; · iapply (cred_four (F := F) (kcell (c, .ex))); iexact Ce
    iexact Te
  isplitl [Zu Zd]
  · isplitl [Zu]; · iapply (ztok_of (F := F) c true none); iexact Zu
    iapply (ztok_of (F := F) c false none); iexact Zd
  isplitl [Azs0 Azs1 Azs2 Azs3 Azs4]
  · isplitl [Azs0]; · iexact Azs0
    isplitl [Azs1]; · iexact Azs1
    isplitl [Azs2]; · iexact Azs2
    isplitl [Azs3] <;> iassumption
  isplitl [Azr0 Azr1 Azr2 Cz0 Cz1 Cz2 Zu0 Zd0 Zu1 Zd1 Zu2 Zd2]
  · isplitl [Azr0 Cz0 Zu0 Zd0]
    · isplitl [Azr0]; · iexact Azr0
      isplitl [Cz0]; · iexact Cz0
      isplitl [Zu0]; · iapply (ztok_of (F := F) c true (some 0)); iexact Zu0
      iapply (ztok_of (F := F) c false (some 0)); iexact Zd0
    isplitl [Azr1 Cz1 Zu1 Zd1]
    · isplitl [Azr1]; · iexact Azr1
      isplitl [Cz1]; · iexact Cz1
      isplitl [Zu1]; · iapply (ztok_of (F := F) c true (some 1)); iexact Zu1
      iapply (ztok_of (F := F) c false (some 1)); iexact Zd1
    isplitl [Azr2]; · iexact Azr2
    isplitl [Cz2]; · iexact Cz2
    isplitl [Zu2]; · iapply (ztok_of (F := F) c true (some 2)); iexact Zu2
    iapply (ztok_of (F := F) c false (some 2)); iexact Zd2
  isplitl [ArsT0 ArrT00 ArrT01 ArrT02 ArrT03 T0 C0 ArsT1 ArrT10 ArrT11 ArrT12 T1 C1 ArsT2 ArrT20 ArrT21 ArrT22 ArrT23 T2 C2 ArsF0 ArrF00 ArrF01 ArrF02 T3 C3 ArsF1 ArrF10 ArrF11 ArrF12 ArrF13 T4 C4 ArsF2 ArrF20 ArrF21 ArrF22 T5 C5]
  · isplitl [ArsT0 ArrT00 ArrT01 ArrT02 ArrT03 T0 C0]
    · iapply (ring_kit4 (F := F) c true 0 rfl)
      isplitl [ArsT0]; · iexact ArsT0
      isplitl [ArrT00]; · iexact ArrT00
      isplitl [ArrT01]; · iexact ArrT01
      isplitl [ArrT02]; · iexact ArrT02
      isplitl [ArrT03]; · iexact ArrT03
      isplitl [T0]; · iexact T0
      iexact C0
    isplitl [ArsT1 ArrT10 ArrT11 ArrT12 T1 C1]
    · iapply (ring_kit3 (F := F) c true 1 rfl)
      isplitl [ArsT1]; · iexact ArsT1
      isplitl [ArrT10]; · iexact ArrT10
      isplitl [ArrT11]; · iexact ArrT11
      isplitl [ArrT12]; · iexact ArrT12
      isplitl [T1]; · iexact T1
      iexact C1
    isplitl [ArsT2 ArrT20 ArrT21 ArrT22 ArrT23 T2 C2]
    · iapply (ring_kit4 (F := F) c true 2 rfl)
      isplitl [ArsT2]; · iexact ArsT2
      isplitl [ArrT20]; · iexact ArrT20
      isplitl [ArrT21]; · iexact ArrT21
      isplitl [ArrT22]; · iexact ArrT22
      isplitl [ArrT23]; · iexact ArrT23
      isplitl [T2]; · iexact T2
      iexact C2
    isplitl [ArsF0 ArrF00 ArrF01 ArrF02 T3 C3]
    · iapply (ring_kit3 (F := F) c false 0 rfl)
      isplitl [ArsF0]; · iexact ArsF0
      isplitl [ArrF00]; · iexact ArrF00
      isplitl [ArrF01]; · iexact ArrF01
      isplitl [ArrF02]; · iexact ArrF02
      isplitl [T3]; · iexact T3
      iexact C3
    isplitl [ArsF1 ArrF10 ArrF11 ArrF12 ArrF13 T4 C4]
    · iapply (ring_kit4 (F := F) c false 1 rfl)
      isplitl [ArsF1]; · iexact ArsF1
      isplitl [ArrF10]; · iexact ArrF10
      isplitl [ArrF11]; · iexact ArrF11
      isplitl [ArrF12]; · iexact ArrF12
      isplitl [ArrF13]; · iexact ArrF13
      isplitl [T4]; · iexact T4
      iexact C4
    iapply (ring_kit3 (F := F) c false 2 rfl)
    isplitl [ArsF2]; · iexact ArsF2
    isplitl [ArrF20]; · iexact ArrF20
    isplitl [ArrF21]; · iexact ArrF21
    isplitl [ArrF22]; · iexact ArrF22
    isplitl [T5]; · iexact T5
    iexact C5
  isplitl [ArrT13]; · iexact ArrT13
  isplitl [ArrF03] <;> iassumption
end Cert.KernelIdeal.Coll
end
-- ==== Proof.Launch.lean ====
/-
  The launch: every device's run from any memory at rest, and what the arrays then hold.
-/
module
public import proofs.«01_k».proof.Proof.Body
public import proofs.«01_k».proof.Proof.Deal
public import Idealize.ShloMosaic.Lib.Pipeline.CollectiveSegs
@[expose] public section
noncomputable section
namespace Cert.KernelIdeal.Coll
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The grid has one point. -/
theorem cfg0_N : cfg0.N = 1 := by decide
/-- The one grid point. -/
abbrev t₀ : Fin cfg0.N := ⟨0, by rw [cfg0_N]; decide⟩
/-- It is the only one. -/
theorem fin_N (t : Fin cfg0.N) : t = t₀ := by
  obtain ⟨t, ht⟩ := t; have := cfg0_N; exact Fin.ext (by simp only [t₀]; omega)

/-- What a device enters its run with, beside its buffers. -/
def start (c : Dev nD) : sProp 𝕄 := iprop((∃ K, records m ρ K) ∗ kits c ∗ levAts L lv)
def Φ₀ (c : Dev nD) : sProp 𝕄 := iprop(start m ρ c ∗ ∃ f, ((c : Thread nD τ).loc cc0_scratch0) ↦{fullShare} f)
def Φ₁ (c : Dev nD) : sProp 𝕄 := iprop((∃ f, ((c : Thread nD τ).loc cc0_scratch0) ↦{fullShare} f) ∗ rest c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => fin m ρ c
  Φ t := match t with
    | ⟨0, _⟩ => Φ₀ m ρ c
    | ⟨_ + 1, _⟩ => Φ₁ c
  q _ := fullShare
  owed t := match t with
    | ⟨0, _⟩ => owedN c 0
    | ⟨_ + 1, _⟩ => 0

omit [FloatOps F] in
/-- A product over the two windows. -/
theorem bigSep_W (Φ : Fin cfg0.W → sProp 𝕄) : bigSep Finset.univ Φ = iprop(Φ (0 : Fin 2) ∗ Φ (1 : Fin 2)) := bigSep_W0 Φ
/-- The argument's block is fetched. -/
theorem fetch_0 (t : Fin cfg0.N) : (cfg0.win (0 : Fin 2)).fetch t = true := by rw [fin_N t]; rfl

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
/-- To own a whole buffer is to hold it at full share. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m ρ c) ∗ stg c cc0_stg1_0 (fin m ρ c))

set_option maxRecDepth 4000 in
/-- The pipeline's obligation of the body, on each device. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) oM (Memref.isWhole_whole _) gM (Memref.isWhole_whole _)
      cc0_scratch1 cc0_scratch2 cc0_scratch3 cc0_scratch4 cc0_scratch5 cc0_scratch6 cc0_scratch7) (fun _ => bodyPost m ρ c)
  unfold bodyPre Φ₀ start
  iintro ⟨⟨⟨⟨%K, HR⟩, Hk, Hlev⟩, Hscr⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedN c 0 from rfl]
  iapply (sound_body m ρ K c fun _ => bodyPost m ρ c) $$ [HR Hlev HO] Hk Hx [Hout] Hscr
  · unfold HO
    isplitl [HR]; · iexact HR
    isplitl [Hlev]; · iexact Hlev
    iexists W; iexact HO
  · iexists g1; iexact Hout
  unfold done bodyPost Φ₁ Dat.owesAt Pipeline.owesWithin
  iintro ⟨Hx, Hout, Hg, Hz, ⟨%W', HO⟩⟩
  rw [show (dats m ρ 0 c).owed t₀.succ = 0 from rfl]
  isplitl [Hg Hz]; · isplitl [Hg] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## What the launch sets up -/

/-- The kernel's own semaphores: every cell but the barrier. -/
def osem (k : {k : Ce // k ≠ .bar}) : SemLoc sig := csem k.1

/-- The body's own semaphores are its scoped ones that the pipeline does not use. -/
theorem ownSemFacts : Pipeline.OwnSemFacts cfg0.spec osem := by decide +kernel

/-- Both windows' arrays are held at full share. -/
theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

/-- What each device is dealt. -/
def G (c : Dev nD) : sProp 𝕄 :=
  iprop((bigSep Finset.univ fun k : Ce => roundState ER (Rd m ρ) (kcell (c, k)) 0)
    ∗ (bigSep Finset.univ fun k : Ce => iprop(at0 c k ∗ reached ER (kcell (c, k)) 0)) ∗ payToks c)
/-- And what it holds once every cell is known to all. -/
def G' (c : Dev nD) : sProp 𝕄 := iprop((∃ K, records m ρ K) ∗ bigSep Finset.univ (fun k : Ce => at0 c k) ∗ payToks c)

omit [FloatOps F] in
/-- The schedule's initial state, dealt to the devices. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Ce => Φ (kcell (c, k)) := by
    unfold allCells; rw [bigSep_map, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq (toks_deal (F := F))) $$ Htok
  unfold G; simp only [bigSep_sep']
  isplitl [Hst]; · iexact Hst
  isplitl [Hat Hr]
  · isplitl [Hat] <;> iassumption
  iexact Htok

omit [FloatOps F] in
/-- The one semaphore that is not scoped is the barrier's. -/
theorem unscopedSems0_eq (c : Dev nD) : (unscopedSems0 c : sProp 𝕄) = semVal (kcell (c, .bar)) 0 := by
  unfold unscopedSems0; rw [bigSep_eq_bigSepL_of_eq [csem .bar] (by decide) (by decide)]; rfl

omit [FloatOps F] in
/-- The cells at rest are the barrier and the kernel's own. -/
theorem rest_split (c : Dev nD) : (rest c : sProp 𝕄)
    = iprop(unscopedSems0 c ∗ Pipeline.ownSems0 (Ix := Unit) (Name := ℕ) (U := UU) (Lvl := ℕ) (Val := Elt F) (τ := τ) osem c) := by
  unfold rest
  rw [bigSep_univ_at _ Ce.bar, ← bigSep_subtype_ne, unscopedSems0_eq]
  rfl

omit [FloatOps F] in
/-- A device turns its counters at zero into its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(at0 c k ∗ reached ER (kcell (c, k)) 0)) ∗ payToks c) := by
  unfold G
  iintro ⟨Hos, Hus, Hst, Hat, Htok⟩
  ihave Hv := (Entails.of_eq (rest_split (F := F) c).symm) $$ [Hos Hus]
  · isplitl [Hus] <;> iassumption
  unfold rest
  imod (show iprop((bigSep Finset.univ fun k : Ce => semVal (kcell (c, k)) 0) ∗ bigSep Finset.univ fun k : Ce => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat] <;> iassumption

omit [FloatOps F] in
/-- What all may know goes to each, with its own. -/
theorem share_out {S : Finset (Dev nD)} {R : sProp 𝕄} [BI.Persistent R] {Φ Ψ : Dev nD → sProp 𝕄}
    (h : ∀ c, iprop(R ∗ Φ c) ⊢ Ψ c) : iprop(R ∗ bigSep S Φ) ⊢ bigSep S Ψ :=
  (sep_mono_left (BI.bigSep_of_persistent S R)).trans (by rw [← bigSep_sep']; exact bigSep_mono fun c _ => h c)

omit [FloatOps F] in
/-- The invariants of all the devices are put together, and each device is given them all. -/
theorem regroup :
    (bigSep Finset.univ fun c : Dev nD => iprop((bigSep Finset.univ fun k => iprop(∃ κ : ℕ, cellInv ER (Rd m ρ) κ (kcell (c, k))))
          ∗ (bigSep Finset.univ fun k => iprop(at0 c k ∗ reached ER (kcell (c, k)) 0)) ∗ payToks c) : sProp 𝕄)
      ⊢ bigSep Finset.univ (G' m ρ) := by
  rw [bigSep_sep', bigSep_sep', ← bigSep_univ_prod (fun ck : Dev nD × Ce => iprop(∃ κ : ℕ, cellInv ER (Rd m ρ) κ (kcell ck))),
    bigSep_congr (s := Finset.univ) (fun (c : Dev nD) _ => bigSep_sep' Finset.univ (fun k : Ce => (at0 c k : sProp 𝕄)) (fun k => reached ER (kcell (c, k)) 0)),
    bigSep_sep', ← bigSep_univ_prod (fun ck : Dev nD × Ce => (reached ER (kcell ck) 0 : sProp 𝕄))]
  iintro ⟨HI, ⟨Hat, #HR⟩, Htok⟩
  icases (BI.bigSep_exists_pi Finset.univ (fun (ck : Dev nD × Ce) (κ : ℕ) => (cellInv ER (Rd m ρ) κ (kcell ck) : sProp 𝕄))) $$ HI with ⟨%K, #HI⟩
  iapply (share_out (S := Finset.univ) (R := records m ρ K) (Φ := fun c => iprop(bigSep Finset.univ (fun k : Ce => at0 c k) ∗ payToks c)) (Ψ := G' m ρ) fun c => by
    unfold G'
    iintro ⟨H1, H2, H3⟩
    isplitl [H1]; · iexists K; iexact H1
    isplitl [H2] <;> iassumption)
  isplitr
  · unfold records; isplitl; · iexact HI
    iexact HR
  · rw [bigSep_sep']
    isplitl [Hat] <;> iassumption

omit [FloatOps F] in
/-- Every device's cells become known to all at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

omit [FloatOps F] in
/-- What the launch gives a device is what its run starts from. -/
theorem start_intro (c : Dev nD) :
    iprop(Pipeline.unscopedRestP Pipeline.Prefetch.none cfg0.spec c (fun b => m ((c : Thread nD τ).loc b)) ∗ levAts L lv
        ∗ Pipeline.launchCred (fun c => owedN c 0) c ∗ prngReg c (ρ c) ∗ G' m ρ c)
      ⊢ |={Set.univ}=> iprop(start m ρ c ∗ emp) := by
  unfold G' start
  iintro ⟨-, Hlev, Hcr, -, HR, Hat, Htok⟩
  ihave Hs := (launch_slots (F := F) c) $$ Hcr
  imodintro
  isplitl
  · isplitl [HR]; · iexact HR
    isplitl [Hat Htok Hs]
    · iapply (kits_intro (F := F) c)
      isplitl [Hat]; · iexact Hat
      isplitl [Htok] <;> iassumption
    iexact Hlev
  · iempintro

/-- With the scratch buffers it is what holds before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What holds after the body gives back the counters at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [rest_split]
  iintro ⟨Hr, Hu, Ho⟩
  isplitl [Hu]; · iexact Hu
  isplitl [Ho] <;> iassumption

omit [FloatOps F] in
/-- The pipeline's own semaphores have level 0. -/
theorem lv_stage (c : Dev nD) (w : Fin cfg0.W) (s : Fin (cfg0.win w).nbuf) : lv ((c : Thread nD τ), .dma ((cfg0.win w).sem s)) () = 0 := by
  have h : decode (.dma ((cfg0.win w).sem s)) = none := by fin_cases w <;> fin_cases s <;> decide +kernel
  dsimp only [lv]; rw [h]

/-- So the pipeline may wait on them. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_lev c _ 0 0 (lv_stage c w s) fun p hp _ => lev_pos c p hp
    · show _ ⊢ MayWait _ _ () 0
      rw [MayWait_zero]; exact Laws.true_intro

/-! ## The run -/

/-- What the window's array ends holding. -/
def finalA (c : Dev nD) (w : Fin cfg0.W) : Buf (Elt F) ((cfg0.win w).arr.view.loc (c : Thread nD τ)) := (dats m ρ 0 c).arrAt w cfg0.N

set_option maxRecDepth 8000 in
/-- From any memory, every counter at zero, the devices' runs end, each window's array as computed and every counter at
    zero again. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => owedN c 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      icases (ownU_pair _ _) $$ Hu with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it was. -/
theorem finalA_x (c : Dev nD) : finalA m ρ c (0 : Fin 2) = m ((c : Thread nD τ).loc main_arg0) :=
  (dats (F := F) m ρ 0 c).arrAt_in (0 : Fin 2) rfl _

end Cert.KernelIdeal.Coll
end
-- ==== Proof.Value.lean ====
/-
  What the result array ends holding: the whole array of which each device's argument is a part.
-/
module
public import proofs.«01_k».proof.Proof.Launch
@[expose] public section
noncomputable section
namespace Cert.KernelIdeal.Coll
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the result array ends holding -/

/-- The argument's one block, all of it, reads as the argument. -/
theorem xstg_eq (c : Dev nD) : xstg m ρ c = m ((c : Thread nD τ).loc main_arg0) :=
  Memref.read_access_unit_zero (Elt F) main_arg0
    (show (fun a => (win0_0.index (0 : Fin 1)) a * main_arg0.ty.shape.size a) = fun _ => 0 from
      funext fun a => by fin_cases a <;> decide) (fun a => by fin_cases a <;> decide) _

/-- The result's array ends as the body left the result's staging buffer. -/
theorem finalA_o (c : Dev nD) : finalA m ρ c (1 : Fin 2) = fin m ρ c := by
  have hz : (fun a => (win0_1.index (0 : Fin 1)) a * main_v1.ty.shape.size a) = fun _ => 0 :=
    funext fun a => by fin_cases a <;> decide
  have h : (win0_1.blk (0 : Fin 1)).view.read (Elt F) (finalA m ρ c (1 : Fin 2)) = fin m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 hz (fun a => by fin_cases a <;> decide) _).symm.trans h

/-! ## It is the whole array, where every device's argument is its part -/

/-- Device `d`'s part is the chunk its place on the line names. -/
theorem meshBlock_zc : ∀ d : Fin 32, Layout.meshLin [2, 4, 4] d.val [2] = d.val % 4 := by decide

/-- Row `i 0` of the whole, read from a device of that row's chunk. -/
theorem part_at {α : Type} (v : S4096x512.Idx → α) (d : Dev nD) (i : S4096x512.Idx) (h : (i 0 : ℕ) / 1024 = (zc d).val) :
    (Layout.blockN ⟨2, ![1024, 512]⟩ ⟨2, ![4096, 512]⟩ (Layout.meshBlock [2, 4, 4] ![[2], []] d) v) (xi (i 0 : ℕ) (i 1 : ℕ)) = v i := by
  rw [Layout.blockN_apply]
  have h1 : (i 1 : ℕ) < 512 := (i 1).isLt
  refine congrArg v (funext fun a => Fin.ext ?_)
  match a with
  | ⟨0, _⟩ =>
    show Layout.meshLin [2, 4, 4] d.val [2] * 1024 + (i 0 : ℕ) % 1024 = (i 0 : ℕ)
    rw [meshBlock_zc d, show d.val % 4 = (i 0 : ℕ) / 1024 from h.symm]
    omega
  | ⟨1, _⟩ =>
    show 0 * 512 + (i 1 : ℕ) % 512 = (i 1 : ℕ)
    omega

/-- Where every device's argument is its part of a whole, what a device ends with is the whole. -/
theorem fin_whole (v : S4096x512.Idx → Elt F .f32)
    (hv : ∀ c : Dev nD, m ((c : Thread nD τ).loc main_arg0)
      = Layout.blockN ⟨2, ![1024, 512]⟩ ⟨2, ![4096, 512]⟩ (Layout.meshBlock [2, 4, 4] ![[2], []] c) v)
    (c : Dev nD) : fin m ρ c = v := by
  have hx : ∀ (d : Dev nD) (i : S4096x512.Idx), (i 0 : ℕ) / 1024 = (zc d).val → xstg m ρ d (xi (i 0 : ℕ) (i 1 : ℕ)) = v i :=
    fun d i h => (congrFun ((xstg_eq m ρ d).trans (hv d)) _).trans (part_at v d i h)
  refine funext fun (i : S4096x512.Idx) => ?_
  have h0 : (i 0 : ℕ) < 4096 := (i 0).isLt
  unfold fin
  split
  · next h => exact hx c i h
  · refine hx _ i ?_
    rw [zc_mk]
    show _ = (i 0 : ℕ) / 1024 % 4
    omega

end Cert.KernelIdeal.Coll
end
-- ==== Proof.Ref.lean ====
/-
  The run of the reference.
-/
module
public import proofs.«01_k».proof.Defs
public import proofs.«01_k».proof.Proof.Gen.ReferenceIdeal
public import Idealize.ShloMosaic.Lib.StableHlo.Run
public import Idealize.ShloMosaic.Lib.Quiescent
@[expose] public section
noncomputable section
/-! The reference, which hands its argument back: it has no operation to run. -/
namespace Cert.ReferenceIdeal.Whole
open Cert.ReferenceIdeal
open Idealize.ShloMosaic Idealize.ShloMosaic.TcCoe Idealize.SL.Sem
variable {F : FTy → Type} [FloatOps F]

/-- From any memory, every counter at zero, the reference's run ends, its argument as it was and every counter at zero. -/
theorem run_main (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.ReferenceIdeal.Whole
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

/-- The two programs' kernels have the same body table: their texts are the same. -/
theorem same_body {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  match l with
  | 0 => exact funext fun ⟨t, s⟩ => rfl

/-- And so the same table with the kernels' regions and pipelines. -/
theorem same_defs {F : FTy → Type} [FloatOps F] : Cert.Kernel.defs (F := F) = Cert.KernelIdeal.defs (F := F) :=
  congrArg (Pipeline.defs Cert.Kernel.pcfgs) same_body

/-- The kernel's frame: its run ends, its argument arrays unchanged, every counter at zero. Its text is the idealized
    kernel's, so this is that program's run (Proof/Launch.lean) at bit patterns. -/
theorem frame_kernel : Cert.quiescent_Kernel := fun m ρ _ => by
  rw [same_defs]
  exact (θ_run Cert.KernelIdeal.defs _ _).mono
    (fun _ h => ⟨fun c => (h.1 c (0 : Fin 2)).trans (Cert.KernelIdeal.Coll.finalA_x m ρ c), h.2⟩)
    (Cert.KernelIdeal.Coll.run_main (F := Bits) m ρ)

/-- The idealized kernel's frame: the same run at exact values. -/
theorem frame_ideal : Cert.quiescent_KernelIdeal := fun m ρ _ =>
  (θ_run Cert.KernelIdeal.defs _ _).mono
    (fun _ h => ⟨fun c => (h.1 c (0 : Fin 2)).trans (Cert.KernelIdeal.Coll.finalA_x m ρ c), h.2⟩)
    (Cert.KernelIdeal.Coll.run_main (F := Ideal) m ρ)

/-- The reference's frame. -/
theorem frame_reference : Cert.quiescent_ReferenceIdeal := fun m ρ _ => Cert.ReferenceIdeal.Whole.run_main (F := Ideal) m ρ

/-- The values: where every device's argument is its part of a whole array, every device's result ends as that whole
    array, which is what the reference returns; both programs' arguments end unchanged. -/
theorem algebraic : Cert.algebraic_KernelIdeal_ReferenceIdeal := by
  intro m ρ m' ρ' _ hagree
  refine ⟨m' (((0 : Dev Cert.ReferenceIdeal.nD).tc : Thread _ Cert.ReferenceIdeal.τ).loc Cert.ReferenceIdeal.main_arg0), ?_, ?_⟩
  · exact (θ_run Cert.KernelIdeal.defs _ _).mono
      (fun _ h c => ⟨(h.1 c (1 : Fin 2)).trans
          ((Cert.KernelIdeal.Coll.finalA_o m ρ c).trans (Cert.KernelIdeal.Coll.fin_whole m ρ _ hagree c)),
        (h.1 c (0 : Fin 2)).trans (Cert.KernelIdeal.Coll.finalA_x m ρ c)⟩)
      (Cert.KernelIdeal.Coll.run_main (F := Ideal) m ρ)
  · exact (θ_run Cert.ReferenceIdeal.defs _ _).mono (fun _ h => ⟨h.1 0, h.1 0⟩)
      (Cert.ReferenceIdeal.Whole.run_main (F := Ideal) m' ρ')

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
